-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S2048x4096 : Shape := ⟨2, ![2048, 4096]⟩
abbrev S4096x8192 : Shape := ⟨2, ![4096, 8192]⟩
abbrev S2048x1 : Shape := ⟨2, ![2048, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S2048x4096 .f32) (main_arg1 : FVec F S4096x8192 .f32) (main_arg2 : IVec S2048x1 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_c_2 : IVec S_ 32 := constantI S_ 32 0#32
  let main_v9 : IVec S2048x1 32 := broadcastInDim S2048x1 ![] bcast_S_S2048x1 main_c_2
  let main_v10 : IVec S2048x1 1 := cmpi .sge main_arg2 main_v9
  let main_c_3 : IVec S_ 32 := constantI S_ 32 16384#32
  let main_v11 : IVec S2048x1 32 := broadcastInDim S2048x1 ![] bcast_S_S2048x1 main_c_3
  let main_v12 : IVec S2048x1 1 := cmpi .slt main_arg2 main_v11
  let main_v13 : IVec S2048x1 1 := andi main_v10 main_v12
  let main_c_4 : IVec S_ 1 := constantI S_ 1 1#1
  let main_v14 : IVec S_ 1 := (fun x v => Host.reduce IntOp.andi x v reducesTo_S2048x1_S_d0_1 h_S_) main_v13 main_c_4
  let main_v15 : IVec S_ 1 := andi main_v8 main_v14
  main_v15
-- ==== Pre_finite_in_range_ReferenceIdeal.lean ====
abbrev S2048x4096 : Shape := ⟨2, ![2048, 4096]⟩
abbrev S4096x16384 : Shape := ⟨2, ![4096, 16384]⟩
abbrev S2048x1 : Shape := ⟨2, ![2048, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S2048x4096 .f32) (main_arg1 : FVec F S4096x16384 .f32) (main_arg2 : IVec S2048x1 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_c_2 : IVec S_ 32 := constantI S_ 32 0#32
  let main_v9 : IVec S2048x1 32 := broadcastInDim S2048x1 ![] bcast_S_S2048x1 main_c_2
  let main_v10 : IVec S2048x1 1 := cmpi .sge main_arg2 main_v9
  let main_c_3 : IVec S_ 32 := constantI S_ 32 16384#32
  let main_v11 : IVec S2048x1 32 := broadcastInDim S2048x1 ![] bcast_S_S2048x1 main_c_3
  let main_v12 : IVec S2048x1 1 := cmpi .slt main_arg2 main_v11
  let main_v13 : IVec S2048x1 1 := andi main_v10 main_v12
  let main_c_4 : IVec S_ 1 := constantI S_ 1 1#1
  let main_v14 : IVec S_ 1 := (fun x v => Host.reduce IntOp.andi x v reducesTo_S2048x1_S_d0_1 h_S_) main_v13 main_c_4
  let main_v15 : IVec S_ 1 := andi main_v8 main_v14
  main_v15
-- ==== Kernel.lean ====
abbrev S2048x4096 : Shape := ⟨2, ![2048, 4096]⟩
abbrev S4096x8192 : Shape := ⟨2, ![4096, 8192]⟩
abbrev S2048x1 : Shape := ⟨2, ![2048, 1]⟩
abbrev S4096x512 : Shape := ⟨2, ![4096, 512]⟩
abbrev S2048x128 : Shape := ⟨2, ![2048, 128]⟩
abbrev S_ : Shape := ⟨0, ![]⟩
abbrev S2048x512 : Shape := ⟨2, ![2048, 512]⟩
abbrev S2048 : Shape := ⟨1, ![2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048x1, .i32⟩
  | .hbm, ⟨3, _⟩ => ⟨S2048x1, .f32⟩
  | .local _ .vmem, ⟨0, _⟩ => ⟨S2048x4096, .f32⟩
  | .local _ .vmem, ⟨1, _⟩ => ⟨S4096x512, .f32⟩
  | .local _ .vmem, ⟨2, _⟩ => ⟨S4096x512, .f32⟩
  | .local _ .vmem, ⟨3, _⟩ => ⟨S2048x1, .i32⟩
  | .local _ .vmem, ⟨4, _⟩ => ⟨S2048x1, .f32⟩
  | .local _ .vmem, ⟨5, _⟩ => ⟨S2048x128, .f32⟩
  | .local _ .vmem, ⟨6, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 1

abbrev nD : Nat := 16
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_13 : BitVec 32 := 0#32
  let v39 : BitVec 1 := Scalar.cmpi .ne v38 c0_i32_13
  v39

def k0_dev1 (d0 : Dev nD) : Nat :=
  let c0_i32_17 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_14 v2
  let c8_i32_16 : BitVec 32 := 8#32
  let v42 : BitVec 32 := Scalar.muli v40 c8_i32_16
  let v43 : BitVec 32 := Scalar.addi c0_i32_17 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v44 : BitVec 32 := Scalar.muli v5 c4_i32_18
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v46 : BitVec 32 := Scalar.muli v8 c1_i32_19
  let v47 : BitVec 32 := Scalar.addi v45 v46
  v47.toNat
def k0_dev2 (d0 : Dev nD) : Nat :=
  let c0_i32_22 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_14 v2
  let c8_i32_21 : BitVec 32 := 8#32
  let v48 : BitVec 32 := Scalar.muli v40 c8_i32_21
  let v49 : BitVec 32 := Scalar.addi c0_i32_22 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v50 : BitVec 32 := Scalar.muli v5 c4_i32_23
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v52 : BitVec 32 := Scalar.muli v8 c1_i32_24
  let v53 : BitVec 32 := Scalar.addi v51 v52
  v53.toNat
def k0_dev3 (d0 : Dev nD) : Nat :=
  let c0_i32_41 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_14 v2
  let c8_i32_40 : BitVec 32 := 8#32
  let v69 : BitVec 32 := Scalar.muli v40 c8_i32_40
  let v70 : BitVec 32 := Scalar.addi c0_i32_41 v69
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v71 : BitVec 32 := Scalar.muli v5 c4_i32_42
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v73 : BitVec 32 := Scalar.muli v8 c1_i32_43
  let v74 : BitVec 32 := Scalar.addi v72 v73
  v74.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2048x4096 : Shape := ⟨2, ![2048, 4096]⟩
abbrev S4096x16384 : Shape := ⟨2, ![4096, 16384]⟩
abbrev S2048x1 : Shape := ⟨2, ![2048, 1]⟩
abbrev S2048 : Shape := ⟨1, ![2048]⟩
abbrev S2048x16384 : Shape := ⟨2, ![2048, 16384]⟩
abbrev S_ : Shape := ⟨0, ![]⟩
abbrev S2048x2 : Shape := ⟨2, ![2048, 2]⟩

abbrev nBuf : Space → Nat
  | .hbm => 38
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048x1, .i32⟩
  | .hbm, ⟨3, _⟩ => ⟨S2048, .i32⟩
  | .hbm, ⟨4, _⟩ => ⟨S2048x16384, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x16384, .f32⟩
  | .hbm, ⟨9, _⟩ => ⟨S2048x16384, .f32⟩
  | .hbm, ⟨10, _⟩ => ⟨S2048x16384, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048, .f32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x1, .i32⟩
  | .hbm, ⟨34, _⟩ => ⟨S2048x2, .i32⟩
  | .hbm, ⟨35, _⟩ => ⟨S2048, .f32⟩
  | .hbm, ⟨36, _⟩ => ⟨S2048, .f32⟩
  | .hbm, ⟨37, _⟩ => ⟨S2048x1, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.KernelIdeal.Cells.lean ====
/-
  The four semaphores of each device, and what each landing hands over.

  Device `c` talks to one other device, `peer c`, the device at the other position of the mesh's first axis. Per device:
  * the runtime's barrier semaphore: `peer c` signals it once (1 unit) when it stands at its last grid point; with the signal comes
    `peer c`'s landing buffer, at any contents;
  * the send semaphore: the device's own transfer completes on it; with the completion the device's own partial sums come back;
  * the receive semaphore: `peer c`'s transfer completes on it; with the completion comes the landing buffer, the first two columns of
    which hold `peer c`'s final partial sums (the other columns of the scratch are never written, so nothing is said of them);
  * the exit semaphore: `peer c` signals it once (1 unit) after it has read what it received; nothing comes with it.
  Each device waits for them in this order. What it still owes while it waits is always to semaphores later in the order.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Launch
public import Idealize.ShloMosaic.Lib.Pipeline.Kit
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own rounds and the protocol's. -/
abbrev UT : Type := UR sig nD τ × UR sig nD τ

local notation "𝕄" => MT nD τ sig Unit (Elt F) ℕ UT ℕ

/-- The pipeline's rounds, -/
abbrev EP : Emb (UR sig nD τ) (MT nD τ sig Unit (Elt F) ℕ UT ℕ) := embL
/-- and the protocol's. -/
abbrev EX : Emb (UR sig nD τ) (MT nD τ sig Unit (Elt F) ℕ UT ℕ) := embR

/-! ## The other device -/

/-- The device at the other position of the mesh's first axis (eight devices a position). -/
def peer (c : Dev nD) : Dev nD := ⟨(c.val + 8) % 16, Nat.mod_lt _ (by decide)⟩

theorem peer_peer (c : Dev nD) : peer (peer c) = c := by revert c; decide

/-- `peer` as a permutation of the devices. -/
def across : Dev nD ≃ Dev nD := ⟨peer, peer, peer_peer, peer_peer⟩

theorem dev1_peer (c : Dev nD) : k0_dev1 c = (peer c).val := (k0_dev1_eq c).trans (by revert c; decide)
theorem dev2_peer (c : Dev nD) : k0_dev2 c = (peer c).val := (k0_dev2_eq c).trans (by revert c; decide)
theorem dev3_peer (c : Dev nD) : k0_dev3 c = (peer c).val := (k0_dev3_eq c).trans (by revert c; decide)

/-! ## Buffers and cells -/

/-- The running sums: column 0 the sum of exponentials, column 1 the label's logit. -/
abbrev stM : Memref sig .tc .vmem S2048x128 .f32 := Memref.whole cc0_scratch0
/-- The landing buffer for the other device's sums. -/
abbrev rxM : Memref sig .tc .vmem S2048x128 .f32 := Memref.whole cc0_scratch1

abbrev barS : Sem sig := (SemArray.scalar (sig.barrier 0 rfl) : Sems sig S_).sem
abbrev sendS : DmaSem sig := (cc0_scratch2 : DmaSems sig S_).sem
abbrev recvS : DmaSem sig := (cc0_scratch3 : DmaSems sig S_).sem
abbrev ackS : Sem sig := (cc0_scratch4 : Sems sig S_).sem

/-- The four semaphores a device waits on, in the order in which it does. -/
abbrev csem : Fin 4 → SemLoc sig := fun | 0 => .reg barS | 1 => .dma sendS | 2 => .dma recvS | 3 => .reg ackS
/-- Those of them that are the launch's own. -/
abbrev osem : Fin 3 → SemLoc sig := fun | 0 => .dma sendS | 1 => .dma recvS | 2 => .reg ackS

abbrev cell (k : Fin 4) (c : Dev nD) : GSem nD τ sig := ((c : Thread nD τ), csem k)
abbrev barCell (c : Dev nD) : GSem nD τ sig := cell 0 c
abbrev sendCell (c : Dev nD) : GSem nD τ sig := cell 1 c
abbrev recvCell (c : Dev nD) : GSem nD τ sig := cell 2 c
abbrev ackCell (c : Dev nD) : GSem nD τ sig := cell 3 c

theorem csem_injective : Function.Injective csem := by decide
theorem csem_ne {j k : Fin 4} (h : j ≠ k) : csem j ≠ csem k := fun e => h (csem_injective e)

/-- The units one transfer of the sums counts. -/
abbrev units : ℕ := rxM.view.dmaCredit
theorem units_pos : 0 < units := View.dmaCredit_pos _ (by decide)

/-! ## Points-to of the two scratch buffers -/

/-- Device `c`'s running sums at contents `f`, -/
def stPts (c : Dev nD) (f : Buf (Elt F) (stM.view.loc (c : Thread nD τ))) : sProp 𝕄 :=
  stM.view.loc (c : Thread nD τ) ↦[stM.view.set]{fullShare} f
/-- and its landing buffer. -/
def rxPts (c : Dev nD) (f : Buf (Elt F) (rxM.view.loc (c : Thread nD τ))) : sProp 𝕄 :=
  rxM.view.loc (c : Thread nD τ) ↦[rxM.view.set]{fullShare} f

omit [FloatOps F] in
instance stPts_storable (c : Dev nD) (f) : BI.Storable (upEmb : UEmb _ 𝕄) (stPts (F := F) c f) := by unfold stPts; infer_instance
omit [FloatOps F] in
instance rxPts_storable (c : Dev nD) (f) : BI.Storable (upEmb : UEmb _ 𝕄) (rxPts (F := F) c f) := by unfold rxPts; infer_instance

omit [FloatOps F] in
theorem stPts_eq (c : Dev nD) (f : Buf (Elt F) ((c : Thread nD τ).loc cc0_scratch0)) :
    stPts c f = (((c : Thread nD τ).loc cc0_scratch0) ↦{fullShare} f : sProp 𝕄) := by unfold stPts; rw [View.set_whole]
omit [FloatOps F] in
theorem rxPts_eq (c : Dev nD) (f : Buf (Elt F) ((c : Thread nD τ).loc cc0_scratch1)) :
    rxPts c f = (((c : Thread nD τ).loc cc0_scratch1) ↦{fullShare} f : sProp 𝕄) := by unfold rxPts; rw [View.set_whole]

/-! ## The columns of a buffer of sums -/

/-- The rectangle of column 0, -/
abbrev rc0 : Rect S2048x128 := Rect.unit (s := S2048x128) ![0, 0] S2048x1.size inb_S2048x128_S2048x1_0_0
/-- and of column 1. -/
abbrev rc1 : Rect S2048x128 := Rect.unit (s := S2048x128) ![0, 1] S2048x1.size inb_S2048x128_S2048x1_0_1

/-- Contents `f` of the running sums have first column `a` and second column `b`; -/
def StHas (f : (cc0_scratch0 : Ref sig .tc).ty.Contents (Elt F)) (a b : Vec F S2048x1 .f32) : Prop :=
  stM.view.readAt (Elt F) rc0.toLoadRect f = a ∧ stM.view.readAt (Elt F) rc1.toLoadRect f = b
/-- and so for the landing buffer. -/
def RxHas (f : (cc0_scratch1 : Ref sig .tc).ty.Contents (Elt F)) (a b : Vec F S2048x1 .f32) : Prop :=
  rxM.view.readAt (Elt F) rc0.toLoadRect f = a ∧ rxM.view.readAt (Elt F) rc1.toLoadRect f = b

omit [FloatOps F] in
/-- Column 0 stored and then column 1: the two columns hold what was stored. -/
theorem stHas_stored (f : (cc0_scratch0 : Ref sig .tc).ty.Contents (Elt F)) (a b : Vec F S2048x1 .f32) :
    StHas (((stM.access rc1 : View sig .tc _ _ _)).write (Elt F) (((stM.access rc0 : View sig .tc _ _ _)).write (Elt F) f a Finset.univ) b Finset.univ) a b := by
  refine ⟨funext fun y => ?_, funext fun y => ?_⟩
  · refine (View.read_writes_cons_miss_of_axis stM.view f ⟨rc1, b⟩ [⟨rc0, a⟩] (rc0.idx y) 1 1 1 rfl rfl rfl (.inl ?_)).trans
      (View.read_writes_cons_emb stM.view f rc0 a [] y)
    have h : (y 1).val < 1 := (y 1).isLt
    show 0 + 1 * (y 1).val < 1
    omega
  · exact View.read_writes_cons_emb stM.view f rc1 b [⟨rc0, a⟩] y

omit [FloatOps F] in
/-- Storing column 0 leaves column 1. -/
theorem st_col1_kept (f : (cc0_scratch0 : Ref sig .tc).ty.Contents (Elt F)) (a : Vec F S2048x1 .f32) :
    stM.view.readAt (Elt F) rc1.toLoadRect ((stM.access rc0 : View sig .tc _ _ _).write (Elt F) f a Finset.univ)
      = stM.view.readAt (Elt F) rc1.toLoadRect f := by
  funext y
  refine View.read_writes_cons_miss_of_axis stM.view f ⟨rc0, a⟩ [] (rc1.idx y) 1 0 1 rfl rfl rfl (.inr ?_)
  show 0 + 1 ≤ 1 + 1 * (y 1).val
  omega

omit [FloatOps F] in
/-- What a transfer of the whole running sums leaves in the landing buffer. -/
theorem rxHas_landed (f : (cc0_scratch0 : Ref sig .tc).ty.Contents (Elt F)) (g : (cc0_scratch1 : Ref sig .tc).ty.Contents (Elt F))
    (a b : Vec F S2048x1 .f32) (h : StHas f a b) : RxHas (rxM.view.write (Elt F) g (stM.view.read (Elt F) f) Finset.univ) a b := by
  have e : rxM.view.write (Elt F) g (stM.view.read (Elt F) f) Finset.univ = f := by
    show (View.whole cc0_scratch1).write (Elt F) g ((View.whole cc0_scratch0).read (Elt F) f) Finset.univ = f
    rw [View.read_whole]; exact View.write_whole_univ _ _ _
  rw [e]; exact h

/-! ## The schedule -/

section Schedule

variable (fin : Dev nD → Vec F S2048x1 .f32 × Vec F S2048x1 .f32)

/-- With the barrier's unit: `peer c`'s landing buffer, and that `peer c`'s receive semaphore is at its round. -/
def barPay (c : Dev nD) : sProp 𝕄 := iprop((∃ f, rxPts (peer c) f) ∗ reached EX (recvCell (peer c)) 0)
/-- With the transfer's completion here: the device's own sums again, `fin c` in their columns. -/
def sendPay (c : Dev nD) : sProp 𝕄 := iprop(∃ f, ⌜StHas f (fin c).1 (fin c).2⌝ ∗ stPts c f)
/-- With the other transfer's completion: the landing buffer with `fin (peer c)` in its columns. -/
def recvPay (c : Dev nD) : sProp 𝕄 := iprop(∃ f, ⌜RxHas f (fin (peer c)).1 (fin (peer c)).2⌝ ∗ rxPts c f)

/-- What comes with the `k`-th of device `c`'s waits. -/
def pay (k : Fin 4) (c : Dev nD) : sProp 𝕄 :=
  match k with
  | 0 => barPay c
  | 1 => sendPay fin c
  | 2 => recvPay fin c
  | 3 => iprop(emp)

/-- The units of each wait. -/
def unitsOf (k : Fin 4) : ℕ :=
  match k with
  | 0 => 1
  | 1 => units
  | 2 => units
  | 3 => 1

theorem unitsOf_pos (k : Fin 4) : 0 < unitsOf k := by
  unfold unitsOf; split
  · exact Nat.one_pos
  · exact units_pos
  · exact units_pos
  · exact Nat.one_pos

/-- The wait a semaphore serves, if any. -/
def waitOf (sm : SemLoc sig) : Option (Fin 4) := if h : ∃ k, csem k = sm then some h.choose else none

theorem waitOf_csem (k : Fin 4) : waitOf (csem k) = some k := by
  have h : ∃ j, csem j = csem k := ⟨k, rfl⟩
  unfold waitOf; rw [dif_pos h]; exact congrArg some (csem_injective h.choose_spec)

/-- One round for each of the four semaphores of each device, with one payer. -/
def sched : Rounds.Schedule (GSem nD τ sig) Unit 𝕄 where
  duties g r := if r = 0 ∧ g.1.2 = .tc ∧ (waitOf g.2).isSome then {()} else ∅
  unitless _ := False
  amount g _ _ := match waitOf g.2 with | some k => unitsOf k | none => 1
  payload g _ _ := match waitOf g.2 with | some k => pay fin k g.1.1 | none => iprop(emp)
  amount_pos g _ _ _ := by
    cases waitOf g.2 with
    | none => exact Nat.one_pos
    | some k => exact unitsOf_pos k

instance pay_storable (k : Fin 4) (c : Dev nD) : BI.Storable (upEmb : UEmb _ 𝕄) (pay fin k c) := by
  unfold pay barPay sendPay recvPay; split <;> infer_instance

instance sched_payload_storable (g : GSem nD τ sig) (r : ℕ) (d : Unit) : BI.Storable (upEmb : UEmb _ 𝕄) ((sched fin).payload g r d) := by
  show BI.Storable upEmb (match waitOf g.2 with | some k => pay fin k g.1.1 | none => iprop(emp))
  split <;> infer_instance

omit [FloatOps F] in
theorem duties_cell (k : Fin 4) (c : Dev nD) : (sched fin).duties (cell k c) 0 = {()} := by
  dsimp only [sched]; exact if_pos ⟨rfl, rfl, by rw [waitOf_csem]; rfl⟩
omit [FloatOps F] in
theorem mem_duties (k : Fin 4) (c : Dev nD) : () ∈ (sched fin).duties (cell k c) 0 := by
  rw [duties_cell]; exact Finset.mem_singleton_self _
omit [FloatOps F] in
theorem duties_later (g : GSem nD τ sig) : ∀ r, 1 ≤ r → (sched fin).duties g r = ∅ :=
  fun r hr => by dsimp only [sched]; exact if_neg fun h => by omega
omit [FloatOps F] in
theorem amount_cell (k : Fin 4) (c : Dev nD) (u : Unit) : (sched fin).amount (cell k c) 0 u = unitsOf k := by
  dsimp only [sched]; rw [waitOf_csem]
omit [FloatOps F] in
theorem expect_cell (k : Fin 4) (c : Dev nD) : (sched fin).expect (cell k c) 0 = unitsOf k := by
  unfold Schedule.expect Schedule.amountOf; rw [duties_cell, Finset.sum_singleton, amount_cell]
omit [FloatOps F] in
theorem payload_cell (k : Fin 4) (c : Dev nD) (u : Unit) : (sched fin).payload (cell k c) 0 u = pay fin k c := by
  dsimp only [sched]; rw [waitOf_csem]
omit [FloatOps F] in
/-- What a wait of the whole round brings. -/
theorem rest_cell (k : Fin 4) (c : Dev nD) :
    bigSep ((sched fin).duties (cell k c) 0 \ ∅) (fun u => (sched fin).payload (cell k c) 0 u) = pay fin k c := by
  rw [Finset.sdiff_empty, duties_cell, bigSep_singleton, payload_cell]

end Schedule

/-! ## What a device owes, and the levels -/

/-- After its barrier signal a device owes the other's receive and exit semaphores; -/
def owe₁ (c : Dev nD) : CellTallies nD τ sig Unit := tallyAt (ackCell (peer c)) () 1 + tallyAt (recvCell (peer c)) () units
/-- before it, the other's barrier too. -/
def owe₀ (c : Dev nD) : CellTallies nD τ sig Unit := owe₁ c + tallyAt (barCell (peer c)) () 1

def L (g : GSem nD τ sig) : Finset Unit := if g.1.2 = .tc then {()} else ∅
/-- The levels: barrier 1, receive 2, exit 3, all others 0. -/
def lv (g : GSem nD τ sig) (_ : Unit) : ℕ := if g.2 = .reg barS then 1 else if g.2 = .dma recvS then 2 else if g.2 = .reg ackS then 3 else 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _

theorem lv_bar (c : Dev nD) : lv (barCell c) () = 1 := by unfold lv; exact if_pos rfl
theorem lv_send (c : Dev nD) : lv (sendCell c) () = 0 := by
  unfold lv
  rw [if_neg (csem_ne (j := 1) (k := 0) (by decide)), if_neg (csem_ne (j := 1) (k := 2) (by decide)), if_neg (csem_ne (j := 1) (k := 3) (by decide))]
theorem lv_recv (c : Dev nD) : lv (recvCell c) () = 2 := by
  unfold lv; rw [if_neg (csem_ne (j := 2) (k := 0) (by decide))]; exact if_pos rfl
theorem lv_ack (c : Dev nD) : lv (ackCell c) () = 3 := by
  unfold lv
  rw [if_neg (csem_ne (j := 3) (k := 0) (by decide)), if_neg (csem_ne (j := 3) (k := 2) (by decide))]; exact if_pos rfl

theorem owe₁_pos {c : Dev nD} {g : GSem nD τ sig} {u : Unit} (h : 0 < owe₁ c g u) : g = ackCell (peer c) ∨ g = recvCell (peer c) :=
  (Pipeline.add_pos_cases h).imp (fun h => (Pipeline.tallyAt_pos h).1) (fun h => (Pipeline.tallyAt_pos h).1)
theorem owe₀_pos {c : Dev nD} {g : GSem nD τ sig} {u : Unit} (h : 0 < owe₀ c g u) :
    g = ackCell (peer c) ∨ g = recvCell (peer c) ∨ g = barCell (peer c) := by
  rcases Pipeline.add_pos_cases h with h | h
  · exact (owe₁_pos h).imp_right .inl
  · exact .inr (.inr (Pipeline.tallyAt_pos h).1)

omit [FloatOps F] in
/-- A wait is allowed while all that is owed lies at higher levels. -/
theorem mayWait (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ()) (fun p hp => by rw [Finset.mem_singleton.mp hp]; exact mem_L c sm ())
    (fun g u hg => by unfold L; rw [if_pos (h g u hg).1]; exact Finset.mem_singleton_self _)
    (fun p hp => by rw [Finset.mem_singleton.mp hp])
    (fun g u hg => (h g u hg).2)

omit [FloatOps F] in
/-- A wait at level 0 is allowed whatever the device still owes. -/
theorem mayWait_low (c : Dev nD) (sm : SemLoc sig) (hsm : lv ((c : Thread nD τ), sm) () = 0) (O : CellTallies nD τ sig Unit)
    (hO : O = owe₀ c ∨ O = owe₁ c ∨ O = tallyAt (ackCell (peer c)) () 1 ∨ O = 0) :
    (levAts L lv : sProp 𝕄) ⊢ MayWait (c : Thread nD τ) sm () O := by
  refine mayWait c sm O fun g u hg => ?_
  rw [hsm]
  have key : g = ackCell (peer c) ∨ g = recvCell (peer c) ∨ g = barCell (peer c) := by
    rcases hO with rfl | rfl | rfl | rfl
    · exact owe₀_pos hg
    · exact (owe₁_pos hg).imp_right .inl
    · exact .inl (Pipeline.tallyAt_pos hg).1
    · exact absurd hg (Nat.lt_irrefl 0)
  rcases key with rfl | rfl | rfl
  · exact ⟨rfl, by rw [lv_ack]; decide⟩
  · exact ⟨rfl, by rw [lv_recv]; decide⟩
  · exact ⟨rfl, by rw [lv_bar]; decide⟩

omit [FloatOps F] in
theorem mayWait_bar (c : Dev nD) : (levAts L lv : sProp 𝕄) ⊢ MayWait (c : Thread nD τ) (.reg barS) () (owe₁ c) := by
  refine mayWait c _ _ fun g u hg => ?_
  rw [lv_bar c]
  rcases owe₁_pos hg with rfl | rfl
  · exact ⟨rfl, by rw [lv_ack]; decide⟩
  · exact ⟨rfl, by rw [lv_recv]; decide⟩

omit [FloatOps F] in
theorem mayWait_recv (c : Dev nD) : (levAts L lv : sProp 𝕄) ⊢ MayWait (c : Thread nD τ) (.dma recvS) () (tallyAt (ackCell (peer c)) () 1) := by
  refine mayWait c _ _ fun g u hg => ?_
  rw [lv_recv c, (Pipeline.tallyAt_pos hg).1]
  exact ⟨rfl, by rw [lv_ack]; decide⟩

end Cert.KernelIdeal.Talk

end
-- ==== Proof.KernelIdeal.Body.lean ====
/-
  What one grid point does, for each of the three kinds of point.

  * The first point stores its block's two sums in the columns of the running sums.
  * A later point adds its block's two sums to them.
  * The last point adds its block's, then exchanges the sums with the other device and stores the result.
-/
module

public import proofs.«01_k».proof.Proof.KernelIdeal.Cells

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UT ℕ

abbrev 𝒱₀ : Variants := Variants.none

/-! ## The branches -/

/-- Whether a point takes the first branch, -/
abbrev branch1 (i : grid0.Coords) : BitVec 1 := Scalar.cmpi .ne (Scalar.extui (Scalar.cmpi .eq (BitVec.ofNat 32 (i 0).val) 0#32)) 0#32
/-- or the second. -/
abbrev branch2 (i : grid0.Coords) : BitVec 1 := Scalar.cmpi .ne (Scalar.extui (Scalar.cmpi .sgt (BitVec.ofNat 32 (i 0).val) 0#32)) 0#32

/-- The first branch is taken at the first point only; -/
theorem first_iff (i : grid0.Coords) : Iff (branch1 i = 1#1) ((i 0).val = 0) := by
  have h : ∀ n : Fin 16, Iff (Scalar.cmpi .ne (Scalar.extui (Scalar.cmpi .eq (BitVec.ofNat 32 n.val) 0#32)) 0#32 = 1#1) (n.val = 0) := by decide
  exact h (i 0)
/-- the second at every later one; -/
theorem later_iff (i : grid0.Coords) : Iff (branch2 i = 1#1) ((i 0).val ≠ 0) := by
  have h : ∀ n : Fin 16, Iff (Scalar.cmpi .ne (Scalar.extui (Scalar.cmpi .sgt (BitVec.ofNat 32 n.val) 0#32)) 0#32 = 1#1) (n.val ≠ 0) := by decide
  exact h (i 0)
/-- the third at the last. -/
theorem last_iff (i : grid0.Coords) : Iff (k0_cond3 i = 1#1) ((i 0).val = 15) := by
  have h : ∀ n : Fin 16, Iff (Scalar.cmpi .ne (Scalar.extui (Scalar.cmpi .eq (BitVec.ofNat 32 n.val) 15#32)) 0#32 = 1#1) (n.val = 15) := by decide
  exact h (i 0)

section Points

variable (i : grid0.Coords) (c : Dev nD)
  (a1 : Memref sig .tc .vmem S2048x4096 .f32) (h1 : a1.IsWhole) (a2 : Memref sig .tc .vmem S4096x512 .f32) (h2 : a2.IsWhole)
  (a3 : Memref sig .tc .vmem S2048x1 .i32) (h3 : a3.IsWhole) (a4 : Memref sig .tc .vmem S2048x1 .f32) (h4 : a4.IsWhole)
  (X : Vec F S2048x4096 .f32) (Wb : Vec F S4096x512 .f32) (Lb : Vec F S2048x1 .i32)

/-- The body at a point, on its staging buffers and the scratch. -/
abbrev prog : Prog (TpuEff nD τ sig (Elt F) Λ₀ .tc) PUnit :=
  cc0_body i a1 h1 a2 h2 a3 h3 a4 h4 (Memref.whole cc0_scratch0) (Memref.isWhole_whole _) (Memref.whole cc0_scratch1) (Memref.isWhole_whole _)
    cc0_scratch2 cc0_scratch3 cc0_scratch4

/-- The three operands' staging buffers at the blocks they hold. -/
def ins : sProp 𝕄 := iprop(owns (c : Thread nD τ) a1 fullShare X ∗ owns (c : Thread nD τ) a2 fullShare Wb ∗ owns (c : Thread nD τ) a3 fullShare Lb)

/-- The running sums, `a` and `b` in their columns. -/
def sums (a b : Vec F S2048x1 .f32) : sProp 𝕄 := iprop(∃ f, ⌜StHas f a b⌝ ∗ stPts c f)

/-- The first point. -/
theorem point_first (hi : (i 0).val = 0) (Kt : PUnit → sProp 𝕄) :
    iprop((ins c a1 a2 a3 X Wb Lb ∗ ∃ f, stPts c f)
        ∗ ((ins c a1 a2 a3 X Wb Lb ∗ sums c (k0_pay7 X Wb) (k0_pay8 i c X Wb Lb)) -∗ Kt ⟨⟩))
      ⊢ wp frame (wpE (defs₀ (F := F)) 𝒱₀ (c : Thread nD τ) none) Set.univ (prog i a1 h1 a2 h2 a3 h3 a4 h4) Kt := by
  unfold prog
  simp only [cc0_body_eq_skeleton]; unfold cc0_body_skel
  simp only [k0_part2_eq_skeleton]; unfold k0_part2_skel
  have e1 : branch1 i = 1#1 := (first_iff i).mpr hi
  have e2 : ¬ branch2 i = 1#1 := fun h => (later_iff i).mp h hi
  have e3 : ¬ k0_cond3 i = 1#1 := fun h => absurd ((last_iff i).mp h) (by omega)
  simp only [Prog.lift, Prog.bind_op, Prog.bind_ret, Prog.pure_eq_ret, wp_deviceId, dif_pos e1, dif_neg e2, dif_neg e3]
  unfold ins owns sums
  iintro ⟨⟨⟨⟨%g1, %hg1, H1⟩, ⟨%g2, %hg2, H2⟩, ⟨%g3, %hg3, H3⟩⟩, ⟨%f, Hst⟩⟩, Hk⟩
  iapply (wp_load 𝒱₀ (c : Thread nD τ) none Set.univ (m := a1) (View.setOn_subset_set _ _)) $$ H1; iintro H1
  iapply (wp_load 𝒱₀ (c : Thread nD τ) none Set.univ (m := a2) (View.setOn_subset_set _ _)) $$ H2; iintro H2
  iapply (wp_load 𝒱₀ (c : Thread nD τ) none Set.univ (m := a3) (View.setOn_subset_set _ _)) $$ H3; iintro H3
  rw [View.readAt_full, View.readAt_full, View.readAt_full, hg1, hg2, hg3]
  unfold stPts
  iapply (wp_load 𝒱₀ (c : Thread nD τ) none Set.univ (m := stM) (View.setOn_subset_set _ _)) $$ Hst; iintro Hst
  iapply (wp_store 𝒱₀ (c : Thread nD τ) none Set.univ (m := stM) (r := rc0) (Mk := Finset.univ) (View.setOn_slice_subset_set _ _ _)) $$ Hst; iintro Hst
  iapply (wp_load 𝒱₀ (c : Thread nD τ) none Set.univ (m := stM) (View.setOn_subset_set _ _)) $$ Hst; iintro Hst
  iapply (wp_store 𝒱₀ (c : Thread nD τ) none Set.univ (m := stM) (r := rc1) (Mk := Finset.univ) (View.setOn_slice_subset_set _ _ _)) $$ Hst; iintro Hst
  rw [wp_ret]; imodintro
  iapply Hk
  isplitl [H1 H2 H3]
  · isplitl [H1]; · iexists g1; isplitr; · (ipureintro; exact hg1)
                    iexact H1
    isplitl [H2]; · iexists g2; isplitr; · (ipureintro; exact hg2)
                    iexact H2
    iexists g3; isplitr; · (ipureintro; exact hg3)
    iexact H3
  iexists _; isplitr; · (ipureintro; exact stHas_stored f _ _)
  iexact Hst

/-- A later point that is not the last. -/
theorem point_mid (hi : (i 0).val ≠ 0) (hi' : (i 0).val ≠ 15) (a b : Vec F S2048x1 .f32) (Kt : PUnit → sProp 𝕄) :
    iprop((ins c a1 a2 a3 X Wb Lb ∗ sums c a b)
        ∗ ((ins c a1 a2 a3 X Wb Lb ∗ sums c (k0_pay1 (k0_pay6 X Wb) a) (k0_pay2 (k0_pay5 i c X Wb Lb) b)) -∗ Kt ⟨⟩))
      ⊢ wp frame (wpE (defs₀ (F := F)) 𝒱₀ (c : Thread nD τ) none) Set.univ (prog i a1 h1 a2 h2 a3 h3 a4 h4) Kt := by
  unfold prog
  simp only [cc0_body_eq_skeleton]; unfold cc0_body_skel
  simp only [k0_part2_eq_skeleton]; unfold k0_part2_skel
  have e1 : ¬ branch1 i = 1#1 := fun h => hi ((first_iff i).mp h)
  have e2 : branch2 i = 1#1 := (later_iff i).mpr hi
  have e3 : ¬ k0_cond3 i = 1#1 := fun h => hi' ((last_iff i).mp h)
  simp only [Prog.lift, Prog.bind_op, Prog.bind_ret, Prog.pure_eq_ret, wp_deviceId, dif_neg e1, dif_pos e2, dif_neg e3]
  unfold ins owns sums
  iintro ⟨⟨⟨⟨%g1, %hg1, H1⟩, ⟨%g2, %hg2, H2⟩, ⟨%g3, %hg3, H3⟩⟩, ⟨%f, %hf, Hst⟩⟩, Hk⟩
  iapply (wp_load 𝒱₀ (c : Thread nD τ) none Set.univ (m := a1) (View.setOn_subset_set _ _)) $$ H1; iintro H1
  iapply (wp_load 𝒱₀ (c : Thread nD τ) none Set.univ (m := a2) (View.setOn_subset_set _ _)) $$ H2; iintro H2
  iapply (wp_load 𝒱₀ (c : Thread nD τ) none Set.univ (m := a3) (View.setOn_subset_set _ _)) $$ H3; iintro H3
  rw [View.readAt_full, View.readAt_full, View.readAt_full, hg1, hg2, hg3]
  unfold stPts
  iapply (wp_load 𝒱₀ (c : Thread nD τ) none Set.univ (m := stM) (View.setOn_subset_set _ _)) $$ Hst; iintro Hst
  iapply (wp_load 𝒱₀ (c : Thread nD τ) none Set.univ (m := stM) (View.setOn_subset_set _ _)) $$ Hst; iintro Hst
  iapply (wp_store 𝒱₀ (c : Thread nD τ) none Set.univ (m := stM) (r := rc0) (Mk := Finset.univ) (View.setOn_slice_subset_set _ _ _)) $$ Hst; iintro Hst
  iapply (wp_load 𝒱₀ (c : Thread nD τ) none Set.univ (m := stM) (View.setOn_subset_set _ _)) $$ Hst; iintro Hst
  iapply (wp_load 𝒱₀ (c : Thread nD τ) none Set.univ (m := stM) (View.setOn_subset_set _ _)) $$ Hst; iintro Hst
  iapply (wp_store 𝒱₀ (c : Thread nD τ) none Set.univ (m := stM) (r := rc1) (Mk := Finset.univ) (View.setOn_slice_subset_set _ _ _)) $$ Hst; iintro Hst
  rw [wp_ret]; imodintro
  rw [st_col1_kept, hf.1, hf.2]
  iapply Hk
  isplitl [H1 H2 H3]
  · isplitl [H1]; · iexists g1; isplitr; · (ipureintro; exact hg1)
                    iexact H1
    isplitl [H2]; · iexists g2; isplitr; · (ipureintro; exact hg2)
                    iexact H2
    iexists g3; isplitr; · (ipureintro; exact hg3)
    iexact H3
  iexists _; isplitr; · (ipureintro; exact stHas_stored f _ _)
  iexact Hst

end Points

end Cert.KernelIdeal.Talk

end
-- ==== Proof.KernelIdeal.Exchange.lean ====
/-
  The last point: the exchange of the sums with the other device, and the result.
-/
module

public import proofs.«01_k».proof.Proof.KernelIdeal.Body

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UT ℕ

variable (fin : Dev nD → Vec F S2048x1 .f32 × Vec F S2048x1 .f32) (K : Dev nD × Fin 4 → ℕ) (c : Dev nD)

/-- The invariants of the semaphores device `c` waits on or signals. -/
def invs : sProp 𝕄 :=
  iprop((cellInv EX (sched fin) (K (c, 0)) (barCell c) ∗ cellInv EX (sched fin) (K (c, 1)) (sendCell c)
      ∗ cellInv EX (sched fin) (K (c, 2)) (recvCell c) ∗ cellInv EX (sched fin) (K (c, 3)) (ackCell c))
    ∗ (cellInv EX (sched fin) (K (peer c, 0)) (barCell (peer c)) ∗ cellInv EX (sched fin) (K (peer c, 2)) (recvCell (peer c))
      ∗ cellInv EX (sched fin) (K (peer c, 3)) (ackCell (peer c))))

/-- Where device `c` stands on its own four semaphores. -/
def positions : sProp 𝕄 :=
  iprop(atPos EX (barCell c) 0 ∅ 0 ∗ atPos EX (sendCell c) 0 ∅ 0 ∗ atPos EX (recvCell c) 0 ∅ 0 ∗ atPos EX (ackCell c) 0 ∅ 0)

/-- The rounds device `c` needs to know open. -/
def opens : sProp 𝕄 :=
  iprop(reached EX (barCell (peer c)) 0 ∗ reached EX (sendCell c) 0 ∗ reached EX (recvCell (peer c)) 0 ∗ reached EX (ackCell (peer c)) 0
    ∗ reached EX (recvCell c) 0)

/-- What device `c` pays with: the other's barrier, receive and exit semaphores, and its own send semaphore. -/
def payToks : sProp 𝕄 :=
  iprop(dutyTok EX (barCell (peer c)) 0 () ∗ dutyTok EX (sendCell c) 0 () ∗ dutyTok EX (recvCell (peer c)) 0 () ∗ dutyTok EX (ackCell (peer c)) 0 ())

/-- The protocol's ghost state at device `c`. -/
def ghost : sProp 𝕄 := iprop(invs fin K c ∗ positions c ∗ opens c ∗ payToks c)

/-- The units device `c` will be paid by the other. -/
def claims : sProp 𝕄 := iprop(cred (tallyAt (barCell c) () 1) ∗ cred (tallyAt (recvCell c) () units) ∗ cred (tallyAt (ackCell c) () 1))

/-- All that device `c` starts the protocol with. -/
def start : sProp 𝕄 := iprop((∃ K, ghost fin K c) ∗ claims c ∗ levAts L lv)

/-- What is left at the end: the two buffers at some contents and the four semaphores at 0. -/
def done : sProp 𝕄 :=
  iprop((∃ f, stPts c f) ∗ (∃ f, rxPts c f) ∗ (semVal (barCell c) 0 ∗ semVal (sendCell c) 0 ∗ semVal (recvCell c) 0 ∗ semVal (ackCell c) 0))

/-- The result: the logarithm of the two devices' sums of exponentials, less their label sums. -/
def result : Vec F S2048x1 .f32 := k0_pay3 (fin c).1 (fin (peer c)).1 (fin c).2 (fin (peer c)).2

omit [FloatOps F] in
/-- The columns of the running sums named by a pair. -/
theorem stHas_of {f : (cc0_scratch0 : Ref sig .tc).ty.Contents (Elt F)} {a b : Vec F S2048x1 .f32} {p : Vec F S2048x1 .f32 × Vec F S2048x1 .f32}
    (h : StHas f a b) (e : p = (a, b)) : StHas f p.1 p.2 := by subst e; exact h

/-- The transfer of the sums to the other device. -/
theorem wp_send_sums (n : Dev nD) (hn : n = peer c) {hsc : (rxM : Memref sig (Dev.tc n : Thread nD τ).2.kind .vmem S2048x128 .f32).view.ref.isScScratch = false}
    {hsrc : stM.view.WordExact} {hdst : rxM.view.WordExact}
    {hsem : DmaTarget.Typed .vmem (.dma recvS) (.remote (Dev.tc n : Thread nD τ) (rxM : Memref sig .tc .vmem S2048x128 .f32) (.dma sendS) hsc)}
    {α : Type} {Q : α → sProp 𝕄} {k : PUnit → Prog (TpuEff nD τ sig (Elt F) Λ₀ .tc) α}
    (f : Buf (Elt F) (stM.view.loc (c : Thread nD τ))) (hf : StHas f (fin c).1 (fin c).2)
    (g : Buf (Elt F) (rxM.view.loc (peer c : Thread nD τ))) (W : Waits sig Unit) :
    iprop(cellInv EX (sched fin) (K (c, 1)) (sendCell c) ∗ cellInv EX (sched fin) (K (peer c, 2)) (recvCell (peer c))
        ∗ stPts c f ∗ rxPts (peer c) g ∗ owes (c : Thread nD τ) (owe₁ c) W
        ∗ dutyTok EX (sendCell c) 0 () ∗ reached EX (sendCell c) 0 ∗ dutyTok EX (recvCell (peer c)) 0 () ∗ reached EX (recvCell (peer c)) 0)
      ⊢ iprop(((cred (tallyAt (sendCell c) () units) ∗ owes (c : Thread nD τ) (tallyAt (ackCell (peer c)) () 1) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma stM (.remote (Dev.tc n : Thread nD τ) rxM (.dma sendS) hsc) (.dma recvS) hsrc hdst hsem) k) Q) := by
  subst hn
  unfold stPts rxPts
  exact Rounds.wp_send_pointsTo 𝒱₀ EX (sched fin) (c : Thread nD τ) none (κ₁ := K (c, 1)) (κ₂ := K (peer c, 2))
    (r₁ := 0) (r₂ := 0) (d₁ := ()) (d₂ := ()) (fs := f) (fd := g) (mem_duties fin 1 c) (mem_duties fin 2 (peer c))
    () () units rfl (amount_cell fin 1 c ()) (amount_cell fin 2 (peer c) ()) (tallyAt (ackCell (peer c)) () 1) rfl (W := W)
    (by
      rw [payload_cell]; unfold pay sendPay stPts
      iintro H; iexists f; isplitr; · (ipureintro; exact hf)
      iexact H)
    (by
      rw [payload_cell]; unfold pay recvPay rxPts; rw [peer_peer]
      iintro H; iexists _; isplitr; swap; · iexact H
      ipureintro; exact rxHas_landed f g _ _ hf)

section Last

omit [FloatOps F] in
/-- Each wait is for its whole round. -/
theorem expect_unit : 0 + (1#32 : BitVec 32).toNat = (sched fin).expect (barCell c) 0 := by
  rw [expect_cell]; decide
omit [FloatOps F] in
theorem expect_ack : 0 + (1#32 : BitVec 32).toNat = (sched fin).expect (ackCell c) 0 := by
  rw [expect_cell]; decide
omit [FloatOps F] in
theorem expect_send : 0 + stM.view.dmaCredit = (sched fin).expect (sendCell c) 0 := by
  rw [expect_cell, Nat.zero_add]; rfl
omit [FloatOps F] in
theorem expect_recv : 0 + rxM.view.dmaCredit = (sched fin).expect (recvCell c) 0 := by
  rw [expect_cell, Nat.zero_add]; rfl

variable (i : grid0.Coords)
  (a1 : Memref sig .tc .vmem S2048x4096 .f32) (h1 : a1.IsWhole) (a2 : Memref sig .tc .vmem S4096x512 .f32) (h2 : a2.IsWhole)
  (a3 : Memref sig .tc .vmem S2048x1 .i32) (h3 : a3.IsWhole) (a4 : Memref sig .tc .vmem S2048x1 .f32) (h4 : a4.IsWhole)
  (X : Vec F S2048x4096 .f32) (Wb : Vec F S4096x512 .f32) (Lb : Vec F S2048x1 .i32)

/-- The two signals and the transfer go to the other device. -/
theorem dev1_eq (h : k0_dev1 c < nD) : (⟨k0_dev1 c, h⟩ : Dev nD) = peer c := Fin.ext (dev1_peer c)
theorem dev2_eq (h : k0_dev2 c < nD) : (⟨k0_dev2 c, h⟩ : Dev nD) = peer c := Fin.ext (dev2_peer c)
theorem dev3_eq (h : k0_dev3 c < nD) : (⟨k0_dev3 c, h⟩ : Dev nD) = peer c := Fin.ext (dev3_peer c)

/-- A wait of this kernel recorded on top of those before. -/
abbrev rec1 (W : Waits sig Unit) : Waits sig Unit := insert (SemLoc.reg barS, ()) W
abbrev rec2 (W : Waits sig Unit) : Waits sig Unit := insert (SemLoc.dma sendS, ()) (rec1 W)
abbrev rec3 (W : Waits sig Unit) : Waits sig Unit := insert (SemLoc.dma recvS, ()) (rec2 W)
abbrev rec4 (W : Waits sig Unit) : Waits sig Unit := insert (SemLoc.reg ackS, ()) (rec3 W)

set_option maxHeartbeats 800000 in
/-- The last point: with the sums before it at `a` and `b`, and `fin c` its block's added to them, it leaves the result. -/
theorem point_last (hi : (i 0).val = 15) (a b : Vec F S2048x1 .f32)
    (hfin : fin c = (k0_pay1 (k0_pay6 X Wb) a, k0_pay2 (k0_pay5 i c X Wb Lb) b)) (d : Vec F S2048x1 .f32) (W : Waits sig Unit)
    (Kt : PUnit → sProp 𝕄) :
    iprop((ins c a1 a2 a3 X Wb Lb ∗ sums c a b ∗ (∃ f, rxPts c f) ∗ start fin c ∗ owes (c : Thread nD τ) (owe₀ c) W
          ∗ owns (c : Thread nD τ) a4 fullShare d)
        ∗ ((ins c a1 a2 a3 X Wb Lb ∗ done c ∗ owes (c : Thread nD τ) 0 (rec4 W) ∗ owns (c : Thread nD τ) a4 fullShare (result fin c)) -∗ Kt ⟨⟩))
      ⊢ wp frame (wpE (defs₀ (F := F)) 𝒱₀ (c : Thread nD τ) none) Set.univ (prog i a1 h1 a2 h2 a3 h3 a4 h4) Kt := by
  unfold prog
  simp only [cc0_body_eq_skeleton]; unfold cc0_body_skel
  simp only [k0_part2_eq_skeleton]; unfold k0_part2_skel
  simp only [k0_part1_eq_skeleton]; unfold k0_part1_skel
  have e1 : ¬ branch1 i = 1#1 := fun h => absurd ((first_iff i).mp h) (by omega)
  have e2 : branch2 i = 1#1 := (later_iff i).mpr (by omega)
  have e3 : k0_cond3 i = 1#1 := (last_iff i).mpr hi
  simp only [semSignalWord, semWaitWord, Prog.lift, Prog.bind_op, Prog.bind_ret, Prog.pure_eq_ret, wp_deviceId, dif_neg e1, dif_pos e2, dif_pos e3,
    dev1_eq c, dev3_eq c]
  unfold ins sums start ghost invs positions opens payToks claims done
  iintro ⟨⟨⟨H1, H2, H3⟩, ⟨%f, %hf, Hst⟩, ⟨%g0, Hrx⟩,
    ⟨⟨%K, ⟨⟨#HIbar, #HIsnd, #HIrcv, #HIack⟩, ⟨#HIbarP, #HIrcvP, #HIackP⟩⟩, ⟨HaB, HaS, HaV, HaA⟩, ⟨#HrBP, #HrS, #HrVP, #HrAP, #HrV⟩, ⟨HtB, HtS, HtV, HtA⟩⟩,
      ⟨HcB, HcV, HcA⟩, #Hlev⟩, HO, H4⟩, Hk⟩
  unfold owns
  icases H1 with ⟨%g1, %hg1, H1⟩
  icases H2 with ⟨%g2, %hg2, H2⟩
  icases H3 with ⟨%g3, %hg3, H3⟩
  icases H4 with ⟨%g4, %hg4, H4⟩
  iapply (wp_load 𝒱₀ (c : Thread nD τ) none Set.univ (m := a1) (View.setOn_subset_set _ _)) $$ H1; iintro H1
  iapply (wp_load 𝒱₀ (c : Thread nD τ) none Set.univ (m := a2) (View.setOn_subset_set _ _)) $$ H2; iintro H2
  iapply (wp_load 𝒱₀ (c : Thread nD τ) none Set.univ (m := a3) (View.setOn_subset_set _ _)) $$ H3; iintro H3
  rw [View.readAt_full, View.readAt_full, View.readAt_full, hg1, hg2, hg3]
  unfold stPts
  iapply (wp_load 𝒱₀ (c : Thread nD τ) none Set.univ (m := stM) (View.setOn_subset_set _ _)) $$ Hst; iintro Hst
  iapply (wp_load 𝒱₀ (c : Thread nD τ) none Set.univ (m := stM) (View.setOn_subset_set _ _)) $$ Hst; iintro Hst
  iapply (wp_store 𝒱₀ (c : Thread nD τ) none Set.univ (m := stM) (r := rc0) (Mk := Finset.univ) (View.setOn_slice_subset_set _ _ _)) $$ Hst; iintro Hst
  iapply (wp_load 𝒱₀ (c : Thread nD τ) none Set.univ (m := stM) (View.setOn_subset_set _ _)) $$ Hst; iintro Hst
  iapply (wp_load 𝒱₀ (c : Thread nD τ) none Set.univ (m := stM) (View.setOn_subset_set _ _)) $$ Hst; iintro Hst
  iapply (wp_store 𝒱₀ (c : Thread nD τ) none Set.univ (m := stM) (r := rc1) (Mk := Finset.univ) (View.setOn_slice_subset_set _ _ _)) $$ Hst; iintro Hst
  rw [st_col1_kept, hf.1, hf.2]
  have hS := stHas_stored (F := F) f (k0_pay1 (k0_pay6 X Wb) a) (k0_pay2 (k0_pay5 i c X Wb Lb) b)
  have hS' := stHas_of hS hfin
  -- the entry signal: the landing buffer goes with it
  iapply (Rounds.wp_signal 𝒱₀ EX (sched fin) (c : Thread nD τ) none (dst := (peer c : Thread nD τ)) (κ := K (peer c, 0))
      (mem_duties fin 0 (peer c)) ((amount_cell fin 0 (peer c) ()).trans (by decide)) () (owe₁ c) rfl) $$ [HO HtB Hrx]
  · isplitr; · iexact HIbarP
    isplitl [HO]; · iexact HO
    isplitl [HtB]; · iexact HtB
    isplitl [Hrx]
    · iapply (Entails.of_eq (payload_cell fin 0 (peer c) ()).symm); unfold pay barPay; rw [peer_peer]
      isplitl [Hrx]; · iexists g0; iexact Hrx
      iexact HrV
    · iexact HrBP
  iintro HO
  -- its own entry wait: the other device's landing buffer comes with it
  iapply (Rounds.wp_wait_rest_token 𝒱₀ EX (sched fin) (c : Thread nD τ) none (κ := K (c, 0))
      (wpE_semWait_eq 𝒱₀ (c : Thread nD τ) none Set.univ) (Set.mem_univ _) () (O := owe₁ c) (W := W) (R := 0) (m := 0) (T := ∅)
      (expect_unit fin c)) $$ [HcB HO HaB]
  · isplitr; · iexact HIbar
    isplitl [HcB]; · iexact HcB
    isplitl [HO]; · iexact HO
    isplitr; · iapply (mayWait_bar c); iexact Hlev
    iexact HaB
  iintro ⟨HO, HaB, -, Hpay⟩
  ihave Hp := (Entails.of_eq (rest_cell fin 0 c)) $$ Hpay
  unfold pay barPay
  icases Hp with ⟨⟨%gn, HrxP⟩, -⟩
  -- the transfer
  iapply (wp_send_sums fin K c _ (dev2_eq c _) _ hS' gn (rec1 W)) $$ [Hst HrxP HO HtS HtV]
  · isplitr; · iexact HIsnd
    isplitr; · iexact HIrcvP
    isplitl [Hst]; · unfold stPts; iexact Hst
    isplitl [HrxP]; · iexact HrxP
    isplitl [HO]; · iexact HO
    isplitl [HtS]; · iexact HtS
    isplitr; · iexact HrS
    isplitl [HtV]; · iexact HtV
    iexact HrVP
  iintro ⟨HcS, HO⟩
  iapply (Rounds.wp_wait_rest_token 𝒱₀ EX (sched fin) (c : Thread nD τ) none (κ := K (c, 1))
      (wpE_waitDma2_eq 𝒱₀ (c : Thread nD τ) none Set.univ) (Set.mem_univ _) () (O := tallyAt (ackCell (peer c)) () 1) (W := rec1 W) (R := 0) (m := 0) (T := ∅)
      (expect_send fin c)) $$ [HcS HO HaS]
  · isplitr; · iexact HIsnd
    isplitl [HcS]; · iexact HcS
    isplitl [HO]; · iexact HO
    isplitr; · iapply (mayWait_low c (.dma sendS) (lv_send c) _ (.inr (.inr (.inl rfl)))); iexact Hlev
    iexact HaS
  iintro ⟨HO, HaS, -, Hpay⟩
  ihave Hst := (Entails.of_eq (rest_cell fin 1 c)) $$ Hpay
  iapply (Rounds.wp_wait_rest_token 𝒱₀ EX (sched fin) (c : Thread nD τ) none (κ := K (c, 2))
      (wpE_waitDma2_eq 𝒱₀ (c : Thread nD τ) none Set.univ) (Set.mem_univ _) () (O := tallyAt (ackCell (peer c)) () 1) (W := rec2 W) (R := 0) (m := 0) (T := ∅)
      (expect_recv fin c)) $$ [HcV HO HaV]
  · isplitr; · iexact HIrcv
    isplitl [HcV]; · iexact HcV
    isplitl [HO]; · iexact HO
    isplitr; · iapply (mayWait_recv c); iexact Hlev
    iexact HaV
  iintro ⟨HO, HaV, -, Hpay⟩
  ihave Hrx := (Entails.of_eq (rest_cell fin 2 c)) $$ Hpay
  unfold pay sendPay recvPay stPts rxPts
  icases Hst with ⟨%fs, %hfs, Hst⟩
  icases Hrx with ⟨%fr, %hfr, Hrx⟩
  iapply (wp_load 𝒱₀ (c : Thread nD τ) none Set.univ (m := stM) (View.setOn_subset_set _ _)) $$ Hst; iintro Hst
  iapply (wp_load 𝒱₀ (c : Thread nD τ) none Set.univ (m := rxM) (View.setOn_subset_set _ _)) $$ Hrx; iintro Hrx
  iapply (wp_load 𝒱₀ (c : Thread nD τ) none Set.univ (m := stM) (View.setOn_subset_set _ _)) $$ Hst; iintro Hst
  iapply (wp_load 𝒱₀ (c : Thread nD τ) none Set.univ (m := rxM) (View.setOn_subset_set _ _)) $$ Hrx; iintro Hrx
  rw [hfs.1, hfs.2, hfr.1, hfr.2]
  iapply (wp_load 𝒱₀ (c : Thread nD τ) none Set.univ (m := a4) (View.setOn_subset_set _ _)) $$ H4; iintro H4
  iapply (wp_store 𝒱₀ (c : Thread nD τ) none Set.univ (m := a4) (r := Rect.unit (s := S2048x1) ![0, 0] S2048x1.size inb_S2048x1_S2048x1_0_0)
    (Mk := Finset.univ) (View.setOn_slice_subset_set _ _ _)) $$ H4; iintro H4
  -- the exit signal and wait
  iapply (Rounds.wp_signal 𝒱₀ EX (sched fin) (c : Thread nD τ) none (dst := (peer c : Thread nD τ)) (κ := K (peer c, 3))
      (mem_duties fin 3 (peer c)) ((amount_cell fin 3 (peer c) ()).trans (by decide)) () 0 (zero_add _).symm) $$ [HO HtA]
  · isplitr; · iexact HIackP
    isplitl [HO]; · iexact HO
    isplitl [HtA]; · iexact HtA
    isplitr; · iapply (Entails.of_eq (payload_cell fin 3 (peer c) ()).symm); unfold pay; iempintro
    iexact HrAP
  iintro HO
  iapply (Rounds.wp_wait_rest_token 𝒱₀ EX (sched fin) (c : Thread nD τ) none (κ := K (c, 3))
      (wpE_semWait_eq 𝒱₀ (c : Thread nD τ) none Set.univ) (Set.mem_univ _) () (O := 0) (W := rec3 W) (R := 0) (m := 0) (T := ∅)
      (expect_ack fin c)) $$ [HcA HO HaA]
  · isplitr; · iexact HIack
    isplitl [HcA]; · iexact HcA
    isplitl [HO]; · iexact HO
    isplitr; · rw [MayWait_zero]; iempintro
    iexact HaA
  iintro ⟨HO, HaA, -, -⟩
  imod (Rounds.cell_close EX (sched fin) (Set.mem_univ (K (c, 0))) (fun h => h) (R := 0 + 1) (duties_later fin (barCell c))) $$ [HaB] with HzB
  · isplitr; · iexact HIbar
    iexact HaB
  imod (Rounds.cell_close EX (sched fin) (Set.mem_univ (K (c, 1))) (fun h => h) (R := 0 + 1) (duties_later fin (sendCell c))) $$ [HaS] with HzS
  · isplitr; · iexact HIsnd
    iexact HaS
  imod (Rounds.cell_close EX (sched fin) (Set.mem_univ (K (c, 2))) (fun h => h) (R := 0 + 1) (duties_later fin (recvCell c))) $$ [HaV] with HzV
  · isplitr; · iexact HIrcv
    iexact HaV
  imod (Rounds.cell_close EX (sched fin) (Set.mem_univ (K (c, 3))) (fun h => h) (R := 0 + 1) (duties_later fin (ackCell c))) $$ [HaA] with HzA
  · isplitr; · iexact HIack
    iexact HaA
  rw [wp_ret]; imodintro
  iapply Hk
  isplitl [H1 H2 H3]
  · isplitl [H1]; · iexists g1; isplitr; · (ipureintro; exact hg1)
                    iexact H1
    isplitl [H2]; · iexists g2; isplitr; · (ipureintro; exact hg2)
                    iexact H2
    iexists g3; isplitr; · (ipureintro; exact hg3)
    iexact H3
  isplitl [Hst Hrx HzB HzS HzV HzA]
  · isplitl [Hst]; · iexists fs; iexact Hst
    isplitl [Hrx]; · iexists fr; iexact Hrx
    isplitl [HzB]; · iexact HzB
    isplitl [HzS]; · iexact HzS
    isplitl [HzV]; · iexact HzV
    iexact HzA
  isplitl [HO]; · iexact HO
  iexists _; isplitr; · (ipureintro; exact View.read_writes_full a4.view g4 inb_S2048x1_S2048x1_0_0 (result fin c) [])
  iexact H4

end Last

end Cert.KernelIdeal.Talk

end
-- ==== Proof.KernelIdeal.Points.lean ====
/-
  The sixteen points of one device in order: what the sums hold after each, and the pipeline's obligation at each.
-/
module

public import proofs.«01_k».proof.Proof.KernelIdeal.Exchange
public import proofs.«01_k».proof.Proof.Gen.KernelIdeal.Frame

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UT ℕ

variable (m : (ℓ : Loc nD τ sig) → Buf (Elt F) ℓ)

/-! ## The contents -/

/-- Point `n` of the grid. -/
def pt (n : ℕ) : Fin cfg0.N := ⟨n % 16, lt_of_lt_of_eq (Nat.mod_lt _ (by decide)) N_0.symm⟩

theorem pt_val (t : Fin cfg0.N) : pt t.val = t :=
  Fin.ext (Nat.mod_eq_of_lt (lt_of_lt_of_eq t.isLt N_0))

/-- The activations' block at a point (the whole array), -/
def xAt (c : Dev nD) (t : Fin cfg0.N) : Vec F S2048x4096 .f32 := iblk m c 0 t
/-- the weights' block (512 columns), -/
def wAt (c : Dev nD) (t : Fin cfg0.N) : Vec F S4096x512 .f32 := iblk m c 1 t
/-- and the labels' (the whole array). -/
def lAt (c : Dev nD) (t : Fin cfg0.N) : Vec F S2048x1 .i32 := iblk m c 2 t

/-- The two running sums of device `c` after point `n`. -/
def tot (c : Dev nD) : ℕ → Vec F S2048x1 .f32 × Vec F S2048x1 .f32
  | 0 => (k0_pay7 (xAt m c (pt 0)) (wAt m c (pt 0)),
      k0_pay8 (grid0.coords (pt 0)) c (xAt m c (pt 0)) (wAt m c (pt 0)) (lAt m c (pt 0)))
  | n + 1 => (k0_pay1 (k0_pay6 (xAt m c (pt (n + 1))) (wAt m c (pt (n + 1)))) (tot c n).1,
      k0_pay2 (k0_pay5 (grid0.coords (pt (n + 1))) c (xAt m c (pt (n + 1))) (wAt m c (pt (n + 1))) (lAt m c (pt (n + 1)))) (tot c n).2)

/-- The sums each device ends with, and sends. -/
def final (c : Dev nD) : Vec F S2048x1 .f32 × Vec F S2048x1 .f32 := tot m c 15

/-- What device `c` writes as its result. -/
def outAt (c : Dev nD) : Vec F S2048x1 .f32 := result (final m) c

/-! ## The pipeline's data -/

/-- Between the points: before the first nothing is known of the sums; after point `n` they hold `tot c n`; after the last the
    protocol is over. -/
def phi (c : Dev nD) : ℕ → sProp 𝕄
  | 0 => iprop(start (final m) c ∗ (∃ f, stPts c f) ∗ ∃ f, rxPts c f)
  | n + 1 => if n < 15 then iprop(start (final m) c ∗ sums c (tot m c n).1 (tot m c n).2 ∗ ∃ f, rxPts c f) else done c

theorem phi_zero (c : Dev nD) : phi m c 0 = iprop(start (final m) c ∗ (∃ f, stPts c f) ∗ ∃ f, rxPts c f) := rfl
theorem phi_succ (c : Dev nD) (n : ℕ) (h : n < 15) :
    phi m c (n + 1) = iprop(start (final m) c ∗ sums c (tot m c n).1 (tot m c n).2 ∗ ∃ f, rxPts c f) := by
  rw [phi, if_pos h]
theorem phi_end (c : Dev nD) : phi m c (15 + 1) = done c := by rw [phi, if_neg (by decide)]

/-- What device `c` owes before point `n`. -/
def oweAt (c : Dev nD) (n : ℕ) : CellTallies nD τ sig Unit := if n < 16 then owe₀ c else 0

def dats (_ : Fin 1) (c : Dev nD) : Dat τ (Elt F) Unit ℕ UT ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outAt m c
  Φ t := phi m c t.val
  q _ := fullShare
  owed t := oweAt c t.val

theorem before_0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by unfold Dat.blockOf; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by unfold Dat.blockOf; rfl) t d).trans
    (by unfold Dat.fetched Dat.blockOf iblk; rfl)

/-! ## The obligation -/

/-- The grid has one axis, so point `t`'s coordinate is `t`. -/
theorem coord_val (t : Fin cfg0.N) : (grid0.coords t 0).val = t.val := by
  have h : (grid0.coords t 0).val = t.val / 1 % 16 := Pipeline.Grid.coords_val (G := grid0) t 0 rfl rfl
  rw [h, Nat.div_one, Nat.mod_eq_of_lt (lt_of_lt_of_eq t.isLt N_0)]

/-- What the body is given at point `t`, -/
def before (c : Dev nD) (t : Fin cfg0.N) : sProp 𝕄 :=
  iprop(phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it hands back. -/
def after (c : Dev nD) (t : Fin cfg0.N) : sProp 𝕄 :=
  iprop(phi m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (match idle0 3 (grid0.coords t) with
        | true =>
          match (cfg0.win 3).flush t with
          | false => iprop(∃ d, owns (c : Thread nD τ) (st0_3 t) fullShare ((dats m 0 c).before 3 t d))
          | true => owns (c : Thread nD τ) (st0_3 t) fullShare ((dats m 0 c).after 3 t)
        | false => owns (c : Thread nD τ) (st0_3 t) fullShare ((dats m 0 c).after 3 t)))

theorem owed_cast (c : Dev nD) (t : Fin cfg0.N) : (dats m 0 c).owed t.castSucc = owe₀ c := by
  dsimp only [dats]; exact if_pos (lt_of_lt_of_eq t.isLt N_0)
theorem owed_succ (c : Dev nD) (t : Fin cfg0.N) : (dats m 0 c).owed t.succ = if t.val = 15 then 0 else owe₀ c := by
  have h := lt_of_lt_of_eq t.isLt N_0
  show oweAt c (t.val + 1) = _
  unfold oweAt
  by_cases h' : t.val = 15
  · rw [if_pos h', if_neg (by omega)]
  · rw [if_neg h', if_pos (by omega)]

theorem idle_at (t : Fin cfg0.N) (h : t.val ≠ 15) : idle0 3 (grid0.coords t) = true := by
  have e : ¬ k0_cond3 (grid0.coords t) = 1#1 := fun h' => h ((coord_val t).symm.trans ((last_iff _).mp h'))
  show (!(k0_cond3 (grid0.coords t) == 1#1)) = true
  rw [beq_eq_false_iff_ne.mpr e]; rfl
theorem busy_at (t : Fin cfg0.N) (h : t.val = 15) : idle0 3 (grid0.coords t) = false := by
  have e : k0_cond3 (grid0.coords t) = 1#1 := (last_iff _).mpr ((coord_val t).trans h)
  show (!(k0_cond3 (grid0.coords t) == 1#1)) = false
  rw [e]; rfl
theorem no_flush (t : Fin cfg0.N) (h : t.val ≠ 15) : (cfg0.win 3).flush t = false := by
  have hN := lt_of_lt_of_eq t.isLt N_0
  exact Bool.eq_false_iff.mpr fun h' => h (by have := (flush0_3 t).mp h'; omega)

/-- The first point meets its obligation. -/
theorem obligation_first (c : Dev nD) (t : Fin cfg0.N) (ht : t.val = 0) :
    before m c t ⊢ wp frame (wpE (defs₀ (F := F)) 𝒱₀ (c : Thread nD τ) none) Set.univ (bodyAt0 t) (fun _ => after m c t) := by
  have hp : pt 0 = t := (congrArg pt ht).symm.trans (pt_val t)
  unfold before after
  simp only [before_0, before_1, before_2]
  rw [idle_at t (by omega), no_flush t (by omega), ht]
  unfold Dat.owesAt
  rw [owed_cast, owed_succ, if_neg (by omega), phi_zero, phi_succ m c 0 (by decide)]
  iintro ⟨⟨Hs, Hst, Hrx⟩, HO, ⟨%d0, H1⟩, ⟨%d1, H2⟩, ⟨%d2, H3⟩, H4⟩
  iapply (point_first (grid0.coords t) c (st0_0 t) _ (st0_1 t) _ (st0_2 t) _ (st0_3 t) _ (xAt m c t) (wAt m c t) (lAt m c t)
    ((coord_val t).trans ht) (fun _ => _))
  isplitl [H1 H2 H3 Hst]
  · isplitl [H1 H2 H3]
    · unfold ins
      isplitl [H1]; · iexact H1
      isplitl [H2]; · iexact H2
      iexact H3
    iexact Hst
  iintro ⟨Hin, Hsum⟩
  unfold ins
  icases Hin with ⟨H1, H2, H3⟩
  isplitl [Hs Hsum Hrx]
  · isplitl [Hs]; · iexact Hs
    isplitl [Hsum]
    · unfold tot; rw [hp]; iexact Hsum
    iexact Hrx
  isplitl [HO]; · iexact HO
  isplitl [H1]; · iexact H1
  isplitl [H2]; · iexact H2
  isplitl [H3]; · iexact H3
  iexact H4

/-- So does each later one but the last, -/
theorem obligation_mid (c : Dev nD) (t : Fin cfg0.N) (n : ℕ) (ht : t.val = n + 1) (hn : n + 1 < 15) :
    before m c t ⊢ wp frame (wpE (defs₀ (F := F)) 𝒱₀ (c : Thread nD τ) none) Set.univ (bodyAt0 t) (fun _ => after m c t) := by
  have hp : pt (n + 1) = t := (congrArg pt ht).symm.trans (pt_val t)
  unfold before after
  simp only [before_0, before_1, before_2]
  rw [idle_at t (by omega), no_flush t (by omega), ht]
  unfold Dat.owesAt
  rw [owed_cast, owed_succ, if_neg (by omega), phi_succ m c n (by omega), phi_succ m c (n + 1) hn]
  iintro ⟨⟨Hs, Hst, Hrx⟩, HO, ⟨%d0, H1⟩, ⟨%d1, H2⟩, ⟨%d2, H3⟩, H4⟩
  iapply (point_mid (grid0.coords t) c (st0_0 t) _ (st0_1 t) _ (st0_2 t) _ (st0_3 t) _ (xAt m c t) (wAt m c t) (lAt m c t)
    (by rw [coord_val]; omega) (by rw [coord_val]; omega) (tot m c n).1 (tot m c n).2 (fun _ => _))
  isplitl [H1 H2 H3 Hst]
  · isplitl [H1 H2 H3]
    · unfold ins
      isplitl [H1]; · iexact H1
      isplitl [H2]; · iexact H2
      iexact H3
    iexact Hst
  iintro ⟨Hin, Hsum⟩
  unfold ins
  icases Hin with ⟨H1, H2, H3⟩
  isplitl [Hs Hsum Hrx]
  · isplitl [Hs]; · iexact Hs
    isplitl [Hsum]
    · rw [tot, hp]; iexact Hsum
    iexact Hrx
  isplitl [HO]; · iexact HO
  isplitl [H1]; · iexact H1
  isplitl [H2]; · iexact H2
  isplitl [H3]; · iexact H3
  iexact H4

/-- and the last. -/
theorem obligation_last (c : Dev nD) (t : Fin cfg0.N) (ht : t.val = 15) :
    before m c t ⊢ wp frame (wpE (defs₀ (F := F)) 𝒱₀ (c : Thread nD τ) none) Set.univ (bodyAt0 t) (fun _ => after m c t) := by
  have hp : pt (14 + 1) = t := (congrArg pt ht).symm.trans (pt_val t)
  unfold before after
  simp only [before_0, before_1, before_2]
  rw [busy_at t ht, ht]
  unfold Dat.owesAt Pipeline.owesWithin
  rw [owed_cast, owed_succ, if_pos ht, phi_end, phi_succ m c 14 (by decide)]
  iintro ⟨⟨Hs, Hst, Hrx⟩, ⟨%W, %hW, HO⟩, ⟨%d0, H1⟩, ⟨%d1, H2⟩, ⟨%d2, H3⟩, ⟨%d3, H4⟩⟩
  iapply (point_last (final m) c (grid0.coords t) (st0_0 t) _ (st0_1 t) _ (st0_2 t) _ (st0_3 t) _ (xAt m c t) (wAt m c t) (lAt m c t)
    ((coord_val t).trans ht) (tot m c 14).1 (tot m c 14).2 (by rw [← hp]; rfl) ((dats m 0 c).before 3 t d3) W (fun _ => _))
  isplitl [H1 H2 H3 H4 Hst Hrx Hs HO]
  · isplitl [H1 H2 H3]
    · unfold ins
      isplitl [H1]; · iexact H1
      isplitl [H2]; · iexact H2
      iexact H3
    isplitl [Hst]; · iexact Hst
    isplitl [Hrx]; · iexact Hrx
    isplitl [Hs]; · iexact Hs
    isplitl [HO]; · iexact HO
    iexact H4
  iintro ⟨Hin, Hd, HO, H4⟩
  unfold ins
  icases Hin with ⟨H1, H2, H3⟩
  isplitl [Hd]; · iexact Hd
  isplitl [HO]
  · iexists (rec4 W)
    isplitr; · ipureintro; exact fun _ _ => Or.inl trivial
    iexact HO
  isplitl [H1]; · iexact H1
  isplitl [H2]; · iexact H2
  isplitl [H3]; · iexact H3
  iexact H4

theorem body_obligation (c : Dev nD) : BodyObligation (dats m 0 c) (defs₀ (F := F)) 𝒱₀ () Set.univ := fun t => by
  rw [bigSep_W0, bigSep_W0]
  show before m c t ⊢ wp frame (wpE (defs₀ (F := F)) 𝒱₀ (c : Thread nD τ) none) Set.univ (bodyAt0 t) (fun _ => after m c t)
  have hN := lt_of_lt_of_eq t.isLt N_0
  rcases Nat.eq_zero_or_pos t.val with h | h
  · exact obligation_first m c t h
  · by_cases h' : t.val = 15
    · exact obligation_last m c t h'
    · exact obligation_mid m c t (t.val - 1) (by omega) (by omega)

end Cert.KernelIdeal.Talk

end
-- ==== Proof.KernelIdeal.Launch.lean ====
/-
  The launch on the sixteen devices, and what every run leaves.
-/
module

public import proofs.«01_k».proof.Proof.KernelIdeal.Points
public import Idealize.ShloMosaic.Lib.Pipeline.CollectiveSegs

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UT ℕ

variable (m : (ℓ : Loc nD τ sig) → Buf (Elt F) ℓ) (ρ : Dev nD → PrngReg)

/-! ## The launch's own semaphores -/

theorem own_sems : Pipeline.OwnSemFacts cfg0.spec osem := by decide

omit [FloatOps F] in
/-- The transfer's two and the exit semaphore are the kernel's own, -/
theorem ownSems0_eq (c : Dev nD) : (Pipeline.ownSems0 (Ix := Unit) (Name := ℕ) (U := UT) (Lvl := ℕ) (Val := Elt F) (τ := τ) osem c : sProp 𝕄)
    = iprop(semVal (sendCell c) 0 ∗ semVal (recvCell c) 0 ∗ semVal (ackCell c) 0) := by
  rw [Pipeline.ownSems0_eq_of_list c osem [0, 1, 2] (by decide) (by decide)]; rfl
omit [FloatOps F] in
/-- and the barrier is the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem sems_of (c : Dev nD) :
    iprop(Pipeline.ownSems0 (Ix := Unit) (Name := ℕ) (U := UT) (Lvl := ℕ) (Val := Elt F) (τ := τ) osem c ∗ unscopedSems0 c)
      ⊢ (bigSep Finset.univ fun k : Fin 4 => semVal (cell k c) 0 : sProp 𝕄) := by
  rw [ownSems0_eq, unscopedSems0_eq, bigSep_four]
  iintro ⟨⟨HS, HR, HA⟩, HB⟩
  isplitl [HB]; · iexact HB
  isplitl [HS]; · iexact HS
  isplitl [HR] <;> iassumption

/-! ## The protocol's ghost state -/

theorem cell_injective : Function.Injective (fun ck : Dev nD × Fin 4 => cell ck.2 ck.1) := by
  rintro ⟨c, k⟩ ⟨c', k'⟩ h
  have h1 : c = c' := congrArg (fun g : GSem nD τ sig => g.1.1) h
  have h2 : k = k' := csem_injective (congrArg (fun g : GSem nD τ sig => g.2) h)
  rw [h1, h2]
theorem tok_injective : Function.Injective (fun ck : Dev nD × Fin 4 => ((cell ck.2 ck.1, 0, ()) : GSem nD τ sig × ℕ × Unit)) :=
  fun _ _ h => cell_injective (congrArg Prod.fst h)

/-- All cells of the protocol, -/
def allCells : Finset (GSem nD τ sig) := Finset.univ.map ⟨_, cell_injective⟩
/-- and the token of each one's only payment. -/
def allToks : Finset (GSem nD τ sig × ℕ × Unit) := Finset.univ.map ⟨_, tok_injective⟩

def u₀ : UT := (initOf (Pipeline.cells cfgs cellOf_inj) (Pipeline.launchToks cfgs cellOf_inj), initOf allCells allToks)

/-- The tokens of device `c`'s own cells. -/
def ownToks (c : Dev nD) : sProp 𝕄 := bigSep Finset.univ fun k : Fin 4 => dutyTok EX (cell k c) 0 ()
/-- Device `c`'s positions and the rounds open at its cells. -/
def ownPos (c : Dev nD) : sProp 𝕄 := bigSep Finset.univ fun k : Fin 4 => iprop(atPos EX (cell k c) 0 ∅ 0 ∗ reached EX (cell k c) 0)

/-- What device `c` is dealt at the launch, -/
def dealt (c : Dev nD) : sProp 𝕄 :=
  iprop((bigSep Finset.univ fun k : Fin 4 => roundState EX (sched (final m)) (cell k c) 0) ∗ ownPos c ∗ ownToks c)
/-- and what all devices together make of it. -/
def ready (c : Dev nD) : sProp 𝕄 := iprop(∃ K, ghost (final m) K c)

omit [FloatOps F] in
theorem bigSep_cells (Φ : GSem nD τ sig → sProp 𝕄) :
    bigSep allCells Φ = bigSep Finset.univ fun c : Dev nD => bigSep Finset.univ fun k : Fin 4 => Φ (cell k c) := by
  unfold allCells; rw [bigSep_map, bigSep_univ_prod]; rfl
omit [FloatOps F] in
theorem bigSep_toks : bigSep allToks (fun x => (dutyTok EX x.1 x.2.1 x.2.2 : sProp 𝕄)) = bigSep Finset.univ fun c : Dev nD => ownToks c := by
  unfold allToks; rw [bigSep_map, bigSep_univ_prod]; rfl

theorem fund : BI.own (EX (initOf allCells allToks)) ⊢ (|==> bigSep Finset.univ (dealt m) : sProp 𝕄) := by
  iintro HX
  imod (Rounds.fund EX (sched (final m)) allCells allToks) $$ HX with ⟨Hst, Hr, Hat, Htok⟩
  imodintro
  ihave Hst' := (Entails.of_eq (bigSep_cells (F := F) fun g => roundState EX (sched (final m)) g 0)) $$ Hst
  ihave Hat' := (Entails.of_eq (bigSep_cells (F := F) fun g => atPos EX g 0 ∅ 0)) $$ Hat
  ihave Hr' := (Entails.of_eq (bigSep_cells (F := F) fun g => reached EX g 0)) $$ Hr
  ihave Htok' := (Entails.of_eq (bigSep_toks (F := F))) $$ Htok
  unfold dealt ownPos; simp only [bigSep_sep']
  isplitl [Hst']; · iexact Hst'
  isplitl [Hat' Hr']
  · isplitl [Hat'] <;> iassumption
  iexact Htok'

theorem alloc (c : Dev nD) :
    iprop(Pipeline.ownSems0 (Ix := Unit) (Name := ℕ) (U := UT) (Lvl := ℕ) (Val := Elt F) (τ := τ) osem c ∗ unscopedSems0 c ∗ dealt m c)
      ⊢ |={Set.univ}=> iprop((bigSep Finset.univ fun k : Fin 4 => iprop(∃ κ : ℕ, cellInv EX (sched (final m)) κ (cell k c))) ∗ ownPos c ∗ ownToks c) := by
  unfold dealt
  iintro ⟨Hos, Hus, Hst, Hat, Htok⟩
  ihave Hv := (sems_of (F := F) c) $$ [Hos Hus]
  · isplitl [Hos] <;> iassumption
  imod (show iprop((bigSep Finset.univ fun k : Fin 4 => semVal (cell k c) 0) ∗ bigSep Finset.univ fun k : Fin 4 => roundState EX (sched (final m)) (cell k c) 0)
      ⊢ (|={Set.univ}=> bigSep Finset.univ fun k : Fin 4 => iprop(∃ κ : ℕ, cellInv EX (sched (final m)) κ (cell k c)) : sProp 𝕄) from by
        rw [← bigSep_sep']
        exact (bigSep_mono fun k _ => (Rounds.body_intro EX (sched (final m)) (cell k c)).trans inv_alloc).trans (bigSep_fupd _ _)) $$ [Hv Hst] with Hinv
  · isplitl [Hv] <;> iassumption
  imodintro
  isplitl [Hinv]; · iexact Hinv
  isplitl [Hat]; · iexact Hat
  iexact Htok

/-- What every device may know: each cell's invariant, and that each is at its round. -/
def known (K : Dev nD × Fin 4 → ℕ) : sProp 𝕄 :=
  iprop((bigSep Finset.univ fun ck : Dev nD × Fin 4 => cellInv EX (sched (final m)) (K ck) (cell ck.2 ck.1))
    ∗ bigSep Finset.univ fun ck : Dev nD × Fin 4 => reached EX (cell ck.2 ck.1) 0)

instance known_persistent (K : Dev nD × Fin 4 → ℕ) : BI.Persistent (known m K) := by unfold known; infer_instance

theorem inv_at (K : Dev nD × Fin 4 → ℕ) (c : Dev nD) (k : Fin 4) :
    (bigSep Finset.univ fun ck : Dev nD × Fin 4 => (cellInv EX (sched (final m)) (K ck) (cell ck.2 ck.1) : sProp 𝕄))
      ⊢ cellInv EX (sched (final m)) (K (c, k)) (cell k c) :=
  bigSep_elim (Finset.mem_univ (c, k))
omit [FloatOps F] in
theorem open_at (c : Dev nD) (k : Fin 4) :
    (bigSep Finset.univ fun ck : Dev nD × Fin 4 => (reached EX (cell ck.2 ck.1) 0 : sProp 𝕄)) ⊢ reached EX (cell k c) 0 :=
  bigSep_elim (Finset.mem_univ (c, k))

/-- What stays with device `c` alone. -/
def alone (c : Dev nD) : sProp 𝕄 := iprop((bigSep Finset.univ fun k : Fin 4 => atPos EX (cell k c) 0 ∅ 0) ∗ payToks c)

theorem ready_intro (K : Dev nD × Fin 4 → ℕ) (c : Dev nD) : iprop(known m K ∗ alone c) ⊢ ready m c := by
  unfold known alone ready ghost invs positions opens
  rw [bigSep_four]
  iintro ⟨⟨#HI, #HR⟩, ⟨H0, H1, H2, H3⟩, Ht⟩
  iexists K
  isplitr
  · isplitr
    · isplitr; · iapply (inv_at m K c 0); iexact HI
      isplitr; · iapply (inv_at m K c 1); iexact HI
      isplitr; · iapply (inv_at m K c 2); iexact HI
      iapply (inv_at m K c 3); iexact HI
    · isplitr; · iapply (inv_at m K (peer c) 0); iexact HI
      isplitr; · iapply (inv_at m K (peer c) 2); iexact HI
      iapply (inv_at m K (peer c) 3); iexact HI
  isplitl [H0 H1 H2 H3]
  · isplitl [H0]; · iexact H0
    isplitl [H1]; · iexact H1
    isplitl [H2] <;> iassumption
  isplitr
  · isplitr; · iapply (open_at (F := F) (peer c) 0); iexact HR
    isplitr; · iapply (open_at (F := F) c 1); iexact HR
    isplitr; · iapply (open_at (F := F) (peer c) 2); iexact HR
    isplitr; · iapply (open_at (F := F) (peer c) 3); iexact HR
    iapply (open_at (F := F) c 2); iexact HR
  iexact Ht

omit [FloatOps F] in
/-- The tokens go to the payers: those of a device's barrier, receive and exit cells to the other device. -/
theorem toks_across : (bigSep Finset.univ fun c : Dev nD => (ownToks c : sProp 𝕄)) ⊢ bigSep Finset.univ fun c : Dev nD => payToks c := by
  rw [bigSep_congr (s := Finset.univ) (fun (c : Dev nD) _ => show (ownToks c : sProp 𝕄) = _ from by unfold ownToks; rw [bigSep_four])]
  unfold payToks
  rw [bigSep_sep', bigSep_sep', bigSep_sep', bigSep_sep', bigSep_sep', bigSep_sep',
    bigSep_univ_equiv across (fun c : Dev nD => (dutyTok EX (cell 0 c) 0 () : sProp 𝕄)),
    bigSep_univ_equiv across (fun c : Dev nD => (dutyTok EX (cell 2 c) 0 () : sProp 𝕄)),
    bigSep_univ_equiv across (fun c : Dev nD => (dutyTok EX (cell 3 c) 0 () : sProp 𝕄))]
  exact .rfl

omit [FloatOps F] in
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 4 => iprop(∃ κ : ℕ, cellInv EX (sched (final m)) κ (cell k c)))
          ∗ ownPos c ∗ ownToks c) : sProp 𝕄)
      ⊢ bigSep Finset.univ (ready m) := by
  unfold ownPos
  rw [bigSep_sep', bigSep_sep', ← bigSep_univ_prod (fun ck : Dev nD × Fin 4 => iprop(∃ κ : ℕ, cellInv EX (sched (final m)) κ (cell ck.2 ck.1))),
    bigSep_congr (s := Finset.univ) (fun (c : Dev nD) _ =>
      bigSep_sep' Finset.univ (fun k : Fin 4 => (atPos EX (cell k c) 0 ∅ 0 : sProp 𝕄)) (fun k => reached EX (cell k c) 0)),
    bigSep_sep', ← bigSep_univ_prod (fun ck : Dev nD × Fin 4 => (reached EX (cell ck.2 ck.1) 0 : sProp 𝕄))]
  iintro ⟨HI, ⟨Hat, #HR⟩, Htok⟩
  ihave HK := (BI.bigSep_exists_pi Finset.univ
    (fun (ck : Dev nD × Fin 4) (κ : ℕ) => (cellInv EX (sched (final m)) κ (cell ck.2 ck.1) : sProp 𝕄))) $$ HI
  icases HK with ⟨%K, #HI⟩
  ihave Htk := (toks_across (F := F)) $$ Htok
  iapply (bigSep_using (R := known m K) fun c _ => ready_intro m K c)
  isplitr
  · unfold known; isplitl; · iexact HI
    iexact HR
  · unfold alone
    iapply (Entails.of_eq (bigSep_sep' Finset.univ (fun c : Dev nD => bigSep Finset.univ fun k : Fin 4 => (atPos EX (cell k c) 0 ∅ 0 : sProp 𝕄)) payToks).symm)
    isplitl [Hat]; · iexact Hat
    iexact Htk

/-- All devices' semaphores at once become the protocol. -/
theorem setup : (bigSep Finset.univ fun c => iprop(Pipeline.ownSems0 (Ix := Unit) (Name := ℕ) (U := UT) (Lvl := ℕ) (Val := Elt F) (τ := τ) osem c
      ∗ unscopedSems0 c ∗ dealt m c) : sProp 𝕄)
    ⊢ |={Set.univ}=> bigSep Finset.univ (ready m) :=
  ((bigSep_mono fun c _ => alloc m c).trans (bigSep_fupd _ _)).trans (BI.fupd_mono (regroup m))

omit [FloatOps F] in
/-- What the others owe a device is its claims. -/
theorem claims_of (c : Dev nD) : (Pipeline.launchCred owe₀ c : sProp 𝕄) ⊢ claims c := by
  have h : (owe₀ : Dev nD → CellTallies nD τ sig Unit)
      = fun d => (tallyAt (ackCell (peer d)) () 1 + tallyAt (recvCell (peer d)) () units) + tallyAt (barCell (peer d)) () 1 := rfl
  rw [h, Pipeline.launchCred_add, Pipeline.launchCred_add]
  unfold claims
  iintro ⟨⟨HA, HR⟩, HB⟩
  isplitl [HB]
  · iapply (Pipeline.launchCred_tallyAt (SemLoc.reg barS) peer peer peer_peer peer_peer () 1 c); iexact HB
  isplitl [HR]
  · iapply (Pipeline.launchCred_tallyAt (SemLoc.dma recvS) peer peer peer_peer peer_peer () units c); iexact HR
  iapply (Pipeline.launchCred_tallyAt (SemLoc.reg ackS) peer peer peer_peer peer_peer () 1 c); iexact HA

/-! ## Entering and leaving the kernel -/

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ ready m c)
      ⊢ |={Set.univ}=> iprop(start (final m) c ∗ emp) := by
  iintro ⟨-, Hlev, Hcr, -, HG⟩
  ihave Hc := (claims_of (F := F) c) $$ Hcr
  imodintro
  unfold start ready
  isplitl
  · isplitl [HG]; · iexact HG
    isplitl [Hc]; · iexact Hc
    iexact Hlev
  · iempintro

theorem enter (c : Dev nD) :
    iprop(start (final m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phi m c 0 from rfl, phi_zero, scopedRest0_eq]
  iintro ⟨Hs, -, ⟨%f, Hf⟩, ⟨%g, Hg⟩⟩
  isplitl [Hs]; · iexact Hs
  isplitl [Hf]
  · iexists f; rw [stPts_eq]; iexact Hf
  iexists g; rw [rxPts_eq]; iexact Hg

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = phi m c cfg0.N from rfl, show cfg0.N = 15 + 1 from N_0, phi_end, scopedRest0_eq, ownSems0_eq, unscopedSems0_eq]
  unfold done
  iintro ⟨⟨%f, Hf⟩, ⟨%g, Hg⟩, HB, HS, HR, HA⟩
  isplitl [HB]; · iexact HB
  isplitl [HS HR HA]
  · isplitl [HS]; · iexact HS
    isplitl [HR] <;> iassumption
  isplitl [Hf]
  · iexists f; rw [← stPts_eq]; iexact Hf
  iexists g; rw [← rxPts_eq]; iexact Hg

omit [FloatOps F] in
/-- Every semaphore but the four stands at level 0. -/
theorem lv_other (c : Dev nD) (sm : SemLoc sig) (h : ∀ k, sm ≠ csem k) : lv ((c : Thread nD τ), sm) () = 0 := by
  unfold lv; rw [if_neg (h 0), if_neg (h 2), if_neg (h 3)]

theorem stage_sem_other : ∀ (w : Fin cfg0.W) (s : Fin (cfg0.win w).nbuf) (k : Fin 4), SemLoc.dma ((cfg0.win w).sem s) ≠ csem k := by decide

theorem waits (c : Dev nD) : (levAts L lv : sProp 𝕄) ⊢ Pipeline.cellsWaits cfgs (dats m) () 0 c :=
  Pipeline.cellsWaits_intro cfgs (dats m) () 0 c fun w s t =>
    mayWait_low c _ (lv_other c _ (stage_sem_other w s)) _ (by
      show oweAt c t.val = _ ∨ oweAt c t.val = _ ∨ oweAt c t.val = _ ∨ oweAt c t.val = _
      unfold oweAt
      split
      · exact .inl rfl
      · exact .inr (.inr (.inr rfl)))

theorem share_full (c : Dev nD) (w : Fin cfg0.W) : (dats m 0 c).share w = fullShare := by unfold Dat.share; split <;> rfl

/-! ## The run -/

/-- What a run leaves in each window's array. -/
def left (c : Dev nD) (w : Fin cfg0.W) : Buf (Elt F) ((cfg0.win w).arr.view.loc (c : Thread nD τ)) := (dats m 0 c).arrAt w cfg0.N

/-- Every run of the program on the sixteen devices ends, with each window's array at `left` and every semaphore at 0. -/
theorem run_left : θ_run (defs (F := F)) (onTc (τ := τ) (main (F := F))) (⟨m, fun _ => 0, ρ⟩ : MemSt nD τ sig (Elt F))
    (fun r => (∀ c : Dev nD, ∀ w : Fin cfg0.W, r.2.mem ((cfg0.win w).arr.view.loc (c : Thread nD τ)) = left m c w) ∧ r.2.sem = fun _ => 0) :=
  Pipeline.θ_run_region_owing_glob_pf (fun p => (cfgs p).toPCfg) (fun p => (cfgs p).toPCfg_adm) (dats m) () cellOf_inj (0 : Fin 1)
    winFacts0.to₀ own_sems (Pipeline.PreFacts.none _) EP defs₀ 𝒱₀ m ρ main
    (hmain := fun _ => rfl)
    (hbody := fun c => body_obligation m c) (hne := fun w => by fin_cases w <;> exact Nat.succ_pos _) (harr := arr_whole0) (hstage := stage_whole0)
    (hshare := share_full m) (hdistinct := winFacts0.arr_inj)
    (O₀ := owe₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := setup m)
    (hA := fun _ _ => rfl) (hpf := fun _ k => k.elim0)
    (X := start (final m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are unchanged. -/
theorem left_0 (c : Dev nD) : left m c 0 = m ((c : Thread nD τ).loc main_arg0) := (dats m 0 c).arrAt_in 0 rfl _
theorem left_1 (c : Dev nD) : left m c 1 = m ((c : Thread nD τ).loc main_arg1) := (dats m 0 c).arrAt_in 1 rfl _
theorem left_2 (c : Dev nD) : left m c 2 = m ((c : Thread nD τ).loc main_arg2) := (dats m 0 c).arrAt_in 2 rfl _

end Cert.KernelIdeal.Talk

end
-- ==== Proof.Value.Block.lean ====
/-
  What one point of the grid computes from its blocks, element by element.
-/
module

public import proofs.«01_k».proof.Proof.Gen.KernelIdeal.Skeleton
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe

variable (X : FVec Ideal S2048x4096 .f32) (W : FVec Ideal S4096x512 .f32) (L : IVec S2048x1 32)

/-- A block of 512 logits is the product of the activations with a block of the weights. -/
theorem logit_at (r : Fin 2048) (q : Fin 512) :
    k0_pay4 (F := Ideal) X W (ix2 r q) = ∑ k : Fin 4096, X (ix2 r k) * W (ix2 k q) := by
  pointwise [k0_pay4]

/-- The first partial sum of a block adds the exponentials of the row's 512 logits. -/
theorem expsum_at (r : Fin 2048) :
    k0_pay6 (F := Ideal) X W (ix2 r 0)
      = ∑ q : Fin 512, Ideal.exp (k0_pay4 (F := Ideal) X W (ix2 r q)) := by
  pointwise [k0_pay6]

/-- The word the kernel computes for the first column of a block: the device's half of the
vocabulary starts at 8192 times its row of the mesh, the block at 512 times the step. -/
theorem offset_word : ∀ (c : Dev nD) (t : Fin 16),
    Scalar.addi (Scalar.muli (Scalar.remsi (Scalar.divsi c.word 8#32) 2#32) 8192#32)
        (Scalar.muli (BitVec.ofNat 32 t.val) 512#32)
      = BitVec.ofNat 32 (c.val / 8 * 8192 + t.val * 512) := by
  decide +kernel

/-- A column's number in its block matches the shifted label exactly when the column's number in
the whole vocabulary is the label. -/
theorem hit_iff (l : BitVec 32) (o q : ℕ) (h : o + q < 2 ^ 32) :
    BitVec.ofNat 32 q = l - BitVec.ofNat 32 o ↔ o + q = l.toNat := by
  constructor
  · intro e
    have e' : l = BitVec.ofNat 32 (o + q) := by
      rw [BitVec.ofNat_add, e, BitVec.add_comm, BitVec.sub_add_cancel]
    rw [e', BitVec.toNat_ofNat, Nat.mod_eq_of_lt h]
  · intro e
    have e' : l = BitVec.ofNat 32 o + BitVec.ofNat 32 q := by
      rw [← BitVec.ofNat_add, e, BitVec.ofNat_toNat, BitVec.setWidth_eq]
    rw [e', BitVec.add_comm, BitVec.add_sub_cancel]

/-- The second partial sum of a block keeps the logit whose column is the row's label. -/
theorem labsum_at (i : grid0.Coords) (c : Dev nD) (r : Fin 2048) :
    k0_pay5 (F := Ideal) i c X W L (ix2 r 0)
      = ∑ q : Fin 512, if c.val / 8 * 8192 + (i 0).val * 512 + q.val = (L (ix2 r 0)).toNat
          then k0_pay4 (F := Ideal) X W (ix2 r q) else 0 := by
  have hi : (i 0).val < 16 := (i 0).isLt
  have hc : c.val < 16 := c.isLt
  have ho := offset_word c ⟨(i 0).val, hi⟩
  pointwise [k0_pay5]
  refine Finset.sum_congr rfl fun q _ => ?_
  have hq := hit_iff (L (ix2 r 0)) (c.val / 8 * 8192 + (i 0).val * 512) q.val (by omega)
  rw [ho]
  by_cases hh : c.val / 8 * 8192 + (i 0).val * 512 + q.val = (L (ix2 r 0)).toNat
  · rw [if_pos hh]
    simp [Scalar.select, IntOp.cmpi, IntOp.subi, hq.2 hh]
  · rw [if_neg hh]
    have hne : ¬ BitVec.ofNat 32 q.val = L (ix2 r 0) - BitVec.ofNat 32 (c.val / 8 * 8192 + (i 0).val * 512) :=
      fun e => hh (hq.1 e)
    simp [Scalar.select, IntOp.cmpi, IntOp.subi, beq_eq_false_iff_ne.mpr hne]

variable (A B : FVec Ideal S2048x1 .f32)

/-- At the first step the running sums are the block's own. -/
theorem start_exp (r : Fin 2048) :
    k0_pay7 (F := Ideal) X W (ix2 r 0) = k0_pay6 (F := Ideal) X W (ix2 r 0) := by
  pointwise [k0_pay7]

theorem start_lab (i : grid0.Coords) (c : Dev nD) (r : Fin 2048) :
    k0_pay8 (F := Ideal) i c X W L (ix2 r 0) = k0_pay5 (F := Ideal) i c X W L (ix2 r 0) := by
  pointwise [k0_pay8]

/-- At a later step the block's sums are added to the running ones. -/
theorem add_exp (r : Fin 2048) :
    k0_pay1 (F := Ideal) A B (ix2 r 0) = B (ix2 r 0) + A (ix2 r 0) := by
  pointwise [k0_pay1]

theorem add_lab (r : Fin 2048) :
    k0_pay2 (F := Ideal) A B (ix2 r 0) = B (ix2 r 0) + A (ix2 r 0) := by
  pointwise [k0_pay2]

/-- The result: the logarithm of the two devices' sums of exponentials, less the sum of their
label logits. -/
theorem result_at (C D : FVec Ideal S2048x1 .f32) (r : Fin 2048) :
    k0_pay3 (F := Ideal) A B C D (ix2 r 0)
      = Ideal.log (A (ix2 r 0) + B (ix2 r 0)) - (C (ix2 r 0) + D (ix2 r 0)) := by
  pointwise [k0_pay3]

end Cert.KernelIdeal.Value

end
-- ==== Proof.Value.Device.lean ====
/-
  What one device ends with: its two sums run over its half of the vocabulary, and its result is read from its own sums and
  its partner's.
-/
module

public import proofs.«01_k».proof.Proof.KernelIdeal.Launch
public import proofs.«01_k».proof.Proof.Value.Block
public import Idealize.ShloMosaic.Lib.Pipeline.ValueKit
public import Idealize.ShloMosaic.Lib.Layout
public import Idealize.ShloMosaic.Lib.LayoutAt

@[expose] public section

set_option maxRecDepth 16384

noncomputable section

namespace Cert.KernelIdeal.Value

open Cert.KernelIdeal Cert.KernelIdeal.Gen Cert.KernelIdeal.Talk
open Idealize.ShloMosaic Idealize.ShloMosaic.TcCoe
open Idealize.SL Idealize.SL.Sem
open Idealize.ShloMosaic.Pipeline (Dat)

/-- The logit of row `r` at column `v` of the whole vocabulary (zero past its end). -/
def logit (X : FVec Ideal S2048x4096 .f32) (W : FVec Ideal ⟨2, ![4096, 16384]⟩ .f32) (r : Fin 2048) (v : ℕ) : Ideal .f32 :=
  if h : v < 16384 then ∑ k : Fin 4096, X (ix2 r k) * W (ix2 k ⟨v, h⟩) else 0

variable (m : (ℓ : Loc nD τ sig) → Buf (Elt Ideal) ℓ) (c : Dev nD)

/-- The block index of every input window at every point. -/
theorem idx : ∀ t : Fin cfg0.N, win0_0.index t = ![0, 0] ∧ win0_1.index t = ![0, t.val] ∧ win0_2.index t = ![0, 0] :=
  (by decide +kernel : ∀ t : Fin grid0.N, _)

/-- The activations and the labels are staged whole. -/
theorem xAt_eq (t : Fin cfg0.N) : xAt m c t = m ((c : Thread nD τ).loc main_arg0) := by
  unfold xAt
  blk_ext! [iblk, V, idx t]
theorem lAt_eq (t : Fin cfg0.N) : lAt m c t = m ((c : Thread nD τ).loc main_arg2) := by
  unfold lAt
  blk_ext! [iblk, V, idx t]

/-- The weights' block at point `t` is their columns from `512 t` on. -/
theorem wAt_eq (t : Fin cfg0.N) (k : Fin 4096) (q : Fin 512) (h : t.val * 512 + q.val < 8192) :
    wAt m c t (ix2 k q) = m ((c : Thread nD τ).loc main_arg1) (ix2 k (⟨t.val * 512 + q.val, h⟩ : Fin 8192)) := by
  unfold wAt
  blk_ext [iblk, V, idx t]

variable (X : FVec Ideal S2048x4096 .f32) (W : FVec Ideal ⟨2, ![4096, 16384]⟩ .f32)

/-- Column `v` of a device's half of the weights is a column of the whole. -/
theorem half_at (B : FVec Ideal S4096x8192 .f32)
    (hB : B = Layout.blockN ⟨2, ![4096, 8192]⟩ ⟨2, ![4096, 16384]⟩ (Layout.meshBlock [2, 2, 4] ![[], [0]] c) W)
    (k : Fin 4096) (v : ℕ) (hv : v < 8192) (h : c.val / 8 * 8192 + v < 16384) :
    B (ix2 k (⟨v, hv⟩ : Fin 8192)) = W (ix2 k (⟨c.val / 8 * 8192 + v, h⟩ : Fin 16384)) := by
  have hc : Layout.meshLin [2, 2, 4] c.val [0] = c.val / 8 := by
    have : c.val < 16 := c.isLt
    show c.val / 8 % 2 * 1 + 0 = c.val / 8
    omega
  subst hB
  rw [Layout.blockN_apply]
  refine congrArg W (Layout.idx_ext fun b => ?_)
  match b with
  | ⟨0, _⟩ => show 0 * 4096 + k.val = k.val; omega
  | ⟨1, _⟩ => show Layout.meshLin [2, 2, 4] c.val [0] * 8192 + v = c.val / 8 * 8192 + v; rw [hc]

variable (hX : m ((c : Thread nD τ).loc main_arg0) = X)
  (hW : m ((c : Thread nD τ).loc main_arg1)
    = Layout.blockN ⟨2, ![4096, 8192]⟩ ⟨2, ![4096, 16384]⟩ (Layout.meshBlock [2, 2, 4] ![[], [0]] c) W)

include hX hW in
/-- The logits point `t` computes are the whole vocabulary's, from the device's offset and `512 t` on. -/
theorem block_logit (t : Fin cfg0.N) (r : Fin 2048) (q : Fin 512) :
    k0_pay4 (F := Ideal) (xAt m c t) (wAt m c t) (ix2 r q) = logit X W r (c.val / 8 * 8192 + (t.val * 512 + q.val)) := by
  have ht : t.val < 16 := lt_of_lt_of_eq t.isLt N_0
  have hc : c.val < 16 := c.isLt
  have hq := q.isLt
  have h1 : t.val * 512 + q.val < 8192 := by omega
  have h2 : c.val / 8 * 8192 + (t.val * 512 + q.val) < 16384 := by omega
  rw [logit_at, logit, dif_pos h2, xAt_eq, hX]
  refine Finset.sum_congr rfl fun k _ => ?_
  rw [wAt_eq m c t k q h1, half_at c W _ hW k _ h1 h2]

/-- A block's sum over its 512 columns, appended to a sum over the columns before it. -/
theorem sum_block (f : ℕ → Ideal .f32) (a n : ℕ) :
    ∑ v ∈ Finset.range (512 * n), f (a + v) + ∑ q : Fin 512, f (a + (n * 512 + q.val)) = ∑ v ∈ Finset.range (512 * (n + 1)), f (a + v) := by
  rw [Finset.sum_fin_eq_sum_range, show 512 * (n + 1) = 512 * n + 512 from Nat.mul_succ _ _, Finset.sum_range_add]
  congr 1
  refine Finset.sum_congr rfl fun q hq => ?_
  rw [dif_pos (Finset.mem_range.mp hq), Nat.mul_comm]

/-- The label's own logit, as a term of a sum over columns. -/
def hit (L : IVec S2048x1 32) (r : Fin 2048) (v : ℕ) : Ideal .f32 :=
  if v = (L (ix2 r 0)).toNat then logit X W r v else 0

variable (L : IVec S2048x1 32) (hL : m ((c : Thread nD τ).loc main_arg2) = L)

include hX hW in
theorem block_exp (t : Fin cfg0.N) (r : Fin 2048) :
    k0_pay6 (F := Ideal) (xAt m c t) (wAt m c t) (ix2 r 0)
      = ∑ q : Fin 512, Ideal.exp (logit X W r (c.val / 8 * 8192 + (t.val * 512 + q.val))) := by
  rw [expsum_at]
  exact Finset.sum_congr rfl fun q _ => by rw [block_logit m c X W hX hW]

include hX hW hL in
theorem block_lab (t : Fin cfg0.N) (r : Fin 2048) :
    k0_pay5 (F := Ideal) (grid0.coords t) c (xAt m c t) (wAt m c t) (lAt m c t) (ix2 r 0)
      = ∑ q : Fin 512, hit X W L r (c.val / 8 * 8192 + (t.val * 512 + q.val)) := by
  rw [labsum_at, coord_val, lAt_eq, hL]
  refine Finset.sum_congr rfl fun q _ => ?_
  rw [block_logit m c X W hX hW, hit, Nat.add_assoc]

include hX hW in
/-- After point `n` the first sum is over the device's first `512 (n + 1)` columns, -/
theorem tot_exp (r : Fin 2048) (n : ℕ) (hn : n < 16) :
    (tot m c n).1 (ix2 r 0) = ∑ v ∈ Finset.range (512 * (n + 1)), Ideal.exp (logit X W r (c.val / 8 * 8192 + v)) := by
  rw [← sum_block (fun v => Ideal.exp (logit X W r v))]
  have hp : (pt n).val = n := Nat.mod_eq_of_lt hn
  induction n with
  | zero => rw [tot]; dsimp only; rw [start_exp, block_exp m c X W hX hW, hp, Nat.mul_zero, Finset.range_zero, Finset.sum_empty, zero_add]
  | succ n ih =>
    rw [tot]; dsimp only
    rw [add_exp, block_exp m c X W hX hW, hp, ih (by omega) (Nat.mod_eq_of_lt (by omega)),
      sum_block (fun v => Ideal.exp (logit X W r v))]

include hX hW hL in
/-- and the second is over the same columns, of the label's logit. -/
theorem tot_lab (r : Fin 2048) (n : ℕ) (hn : n < 16) :
    (tot m c n).2 (ix2 r 0) = ∑ v ∈ Finset.range (512 * (n + 1)), hit X W L r (c.val / 8 * 8192 + v) := by
  rw [← sum_block (hit X W L r)]
  have hp : (pt n).val = n := Nat.mod_eq_of_lt hn
  induction n with
  | zero => rw [tot]; dsimp only; rw [start_lab, block_lab m c X W hX hW L hL, hp, Nat.mul_zero, Finset.range_zero, Finset.sum_empty, zero_add]
  | succ n ih =>
    rw [tot]; dsimp only
    rw [add_lab, block_lab m c X W hX hW L hL, hp, ih (by omega) (Nat.mod_eq_of_lt (by omega)), sum_block (hit X W L r)]

/-- The two halves of the vocabulary, in whichever order, are the whole. -/
theorem sum_halves (f : ℕ → Ideal .f32) :
    ∑ v ∈ Finset.range 8192, f (c.val / 8 * 8192 + v) + ∑ v ∈ Finset.range 8192, f ((peer c).val / 8 * 8192 + v)
      = ∑ v ∈ Finset.range 16384, f v := by
  have hs : ∑ v ∈ Finset.range 16384, f v = ∑ v ∈ Finset.range 8192, f v + ∑ v ∈ Finset.range 8192, f (8192 + v) :=
    Finset.sum_range_add f 8192 8192
  have hd : ∀ c : Dev nD, c.val / 8 = 0 ∧ (peer c).val / 8 = 1 ∨ c.val / 8 = 1 ∧ (peer c).val / 8 = 0 := by decide
  rw [hs]
  rcases hd c with ⟨h0, h1⟩ | ⟨h0, h1⟩ <;> simp only [h0, h1, Nat.zero_mul, Nat.one_mul, Nat.zero_add]
  exact add_comm _ _

end Cert.KernelIdeal.Value

namespace Cert.KernelIdeal.Value

open Cert.KernelIdeal Cert.KernelIdeal.Gen Cert.KernelIdeal.Talk
open Idealize.ShloMosaic Idealize.ShloMosaic.TcCoe
open Idealize.SL Idealize.SL.Sem

variable (m : (ℓ : Loc nD τ sig) → Buf (Elt Ideal) ℓ)
  (X : FVec Ideal S2048x4096 .f32) (W : FVec Ideal ⟨2, ![4096, 16384]⟩ .f32) (L : IVec S2048x1 32)
  (hX : ∀ c : Dev nD, m ((c : Thread nD τ).loc main_arg0) = X)
  (hW : ∀ c : Dev nD, m ((c : Thread nD τ).loc main_arg1)
    = Layout.blockN ⟨2, ![4096, 8192]⟩ ⟨2, ![4096, 16384]⟩ (Layout.meshBlock [2, 2, 4] ![[], [0]] c) W)
  (hL : ∀ c : Dev nD, m ((c : Thread nD τ).loc main_arg2) = L)

/-- What every device computes for row `r`: the logarithm of the sum of the row's exponentials over the whole vocabulary, less
the label's logit. -/
def loss (r : Fin 2048) : Ideal .f32 :=
  Ideal.log (∑ v ∈ Finset.range 16384, Ideal.exp (logit X W r v)) - ∑ v ∈ Finset.range 16384, hit X W L r v

include hX hW hL in
theorem outAt_apply (c : Dev nD) (r : Fin 2048) : outAt m c (ix2 r 0) = loss X W L r := by
  unfold outAt result final
  rw [result_at, tot_exp m c X W (hX c) (hW c) r 15 (by decide), tot_exp m (peer c) X W (hX _) (hW _) r 15 (by decide),
    tot_lab m c X W (hX c) (hW c) L (hL c) r 15 (by decide), tot_lab m (peer c) X W (hX _) (hW _) L (hL _) r 15 (by decide)]
  rw [show 512 * (15 + 1) = 8192 from rfl, sum_halves c (fun v => Ideal.exp (logit X W r v)), sum_halves c (hit X W L r)]
  rfl

/-- The result array holds what the last point wrote. -/
theorem left_out (c : Dev nD) : left m c 3 = outAt m c := by
  unfold left
  refine (dats m 0 c).arrAt_eq_of_after_last 3 (pt 15) (by decide +kernel) _ fun j => ?_
  blk_simp
  rfl

end Cert.KernelIdeal.Value

end
-- ==== Proof.Value.Reference.lean ====
/-
  What the reference computes, row by row.
-/
module

public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.ReferenceIdeal.Value

open Cert.ReferenceIdeal Cert.ReferenceIdeal.Gen
open Idealize.ShloMosaic Idealize.ShloMosaic.TcCoe

variable (X : FVec Ideal S2048x4096 .f32) (W : FVec Ideal S4096x16384 .f32) (L : IVec S2048x1 32)

/-- The logits. -/
def logits : FVec Ideal S2048x16384 .f32 := Host.dotGeneral dot_S2048x4096_S4096x16384_S2048x16384_1_0_0_1_n_n none X W

theorem logits_at (r : Fin 2048) (v : Fin 16384) : logits X W (ix2 r v) = ∑ k : Fin 4096, X (ix2 r k) * W (ix2 k v) := by
  pointwise [logits]

variable (Z : FVec Ideal S2048x16384 .f32) (M G : FVec Ideal S2048 .f32)

/-- Each row's largest logit. -/
def top : FVec Ideal S2048 .f32 := Host.reduce FloatOps.maximumf Z (constant S_ .f32 0xFF800000#32) reducesTo_S2048x16384_S2048_d1 h_S_

theorem top_at (r : Fin 2048) :
    top Z (ix1 r) = Finset.univ.fold max (Ideal.ofBits .f32 0xFF800000#32) fun v : Fin 16384 => Z (ix2 r v) := by
  pointwise [top]

/-- The logarithm of the sum of a row's exponentials, each shifted down by `M`, shifted back up. -/
def lse : FVec Ideal S2048 .f32 :=
  shapeCast _ (addf (broadcastInDim S2048x1 ![0] bcast_S2048_S2048x1_0 M) (Host.log (broadcastInDim S2048x1 ![0] bcast_S2048_S2048x1_0 (Host.reduceAdd (Host.exp (subf Z (broadcastInDim S2048x16384 ![0, 1] bcast_S2048x1_S2048x16384_0_1 (broadcastInDim S2048x1 ![0] bcast_S2048_S2048x1_0 M)))) (constant S_ .f32 0x00000000#32) reducesTo_S2048x16384_S2048_d1 h_S_)))) shapeCasts_S2048x1_S2048

theorem lse_at (r : Fin 2048) :
    lse Z M (ix1 r) = M (ix1 r) + Ideal.log (∑ v : Fin 16384, Ideal.exp (Z (ix2 r v) - M (ix1 r))) := by
  pointwise [lse]

/-- The positions read: each row's number with its label, either counted from the end where negative. -/
def pairs : IVec S2048x2 32 := (concatenate S2048x2 1 [⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩, ⟨S2048x1, (broadcastInDim S2048x1 ![0] bcast_S2048_S2048x1_0 (select (cmpi .slt (shapeCast _ L shapeCasts_S2048x1_S2048) (broadcastInDim S2048 ![] bcast_S_S2048 (constantI S_ 32 0#32))) (addi (shapeCast _ L shapeCasts_S2048x1_S2048) (broadcastInDim S2048 ![] bcast_S_S2048 (constantI S_ 32 16384#32))) (shapeCast _ L shapeCasts_S2048x1_S2048)))⟩] concatenates_S2048x1_S2048x1_S2048x2_d1)

/-- A word below `2 ^ 31` is not negative, so it is kept. -/
theorem keep (w d : BitVec 32) (h : w.toNat < 2 ^ 31) :
    Scalar.select (IntOp.cmpi CmpIPredicate.slt w 0#32) (IntOp.addi w d) w = w := by
  have : w.slt 0#32 = false := by rw [BitVec.slt_zero_eq_msb, BitVec.msb_eq_false_iff_two_mul_lt]; omega
  simp [Scalar.select, IntOp.cmpi, this]

theorem pairs_row (r : Fin 2048) : pairs L (ix2 r 0) = BitVec.ofNat 32 r.val := by
  pointwise [pairs]
  have := r.isLt
  exact keep _ _ (by rw [BitVec.toNat_ofNat]; omega)
theorem pairs_col (r : Fin 2048) (h : (L (ix2 r 0)).toNat < 16384) : pairs L (ix2 r 1) = L (ix2 r 0) := by
  pointwise [pairs]
  exact keep _ _ (by omega)

/-- The difference of the two, as a column. -/
theorem diff_at (r : Fin 2048) :
    (shapeCast S2048x1 (subf M G) shapeCasts_S2048_S2048x1 : FVec Ideal S2048x1 .f32) (ix2 r 0) = M (ix1 r) - G (ix1 r) := by
  pointwise []

/-- The shape record of the reference's lookup, by a short name. -/
abbrev look := gather_S2048x16384_S2048x2_S2048_n_01_n_n_01_1_11

/-- Component `i` of the position that result row `r` reads is entry `(r, i)`. -/
theorem look_pos (r : Fin 2048) (i : Fin look.startIndexMap.length) (i' : Fin 2) (h : i.val = i'.val) :
    look.siIdx (ix1 r) i = ix2 r i' := by
  have e : ∀ x : Fin 1, (ix1 r x).val = r.val := fun x => by rw [Subsingleton.elim x 0]; rfl
  funext b
  apply Fin.ext
  match b with
  | ⟨0, h0⟩ =>
    unfold GatherDims.siIdx
    rw [dif_neg (show ¬ ((⟨0, h0⟩ : Fin S2048x2.rank).val = look.indexVectorDim) from Nat.zero_ne_one)]
    exact e _
  | ⟨1, h1⟩ =>
    unfold GatherDims.siIdx
    rw [dif_pos (show (⟨1, h1⟩ : Fin S2048x2.rank).val = look.indexVectorDim from rfl)]
    exact h

/-- A position that is a small number, read signed and kept inside the axis, is that number. -/
theorem clamp (w : BitVec 32) (n N : ℕ) (hw : w = BitVec.ofNat 32 n) (hn : n < N) (hN : N < 2 ^ 31) :
    min w.toInt.toNat (N - 1) = n := by
  rw [hw, StableHlo.Predicate.toInt_ofNat_small _ (by omega)]
  omega

/-- Both axes of the table are looked up. -/
theorem look_axis (i : Fin S2048x16384.rank) : i ∈ [(0 : Fin 2), 1] := by
  revert i
  exact (by decide : ∀ i : Fin 2, i ∈ [(0 : Fin 2), 1])

/-- A pair of positions in range reads the logit there. -/
theorem pick_at (P : IVec S2048x2 32) (r : Fin 2048) (a : Fin 2048) (b : Fin 16384)
    (ha : P (ix2 r 0) = BitVec.ofNat 32 a.val) (hb : P (ix2 r 1) = BitVec.ofNat 32 b.val) :
    Host.gather look Z P (ix1 r) = Z (ix2 a b) := by
  unfold Host.gather
  refine congrArg Z (funext fun i => Fin.ext ?_)
  show look.start (ix1 r) P i + look.batchCoord (ix1 r) i + look.offCoord (ix1 r) i = _
  have hi : i ∉ look.sKept := fun h => ((look.mem_sKept i).1 h).1 (look_axis i)
  rw [look.batchCoord_eq_zero _ _ List.not_mem_nil, look.offCoord_eq_zero _ _ hi]
  unfold GatherDims.start
  rw [dif_pos (show i ∈ look.startIndexMap from look_axis i)]
  match i with
  | ⟨0, _⟩ =>
    exact clamp _ _ 2048 ((congrArg P (look_pos r _ 0 rfl)).trans ha) a.isLt (by decide)
  | ⟨1, _⟩ =>
    exact clamp _ _ 16384 ((congrArg P (look_pos r _ 1 rfl)).trans hb) b.isLt (by decide)

/-- The reference's result. -/
def val : FVec Ideal S2048x1 .f32 :=
  shapeCast S2048x1 (subf (lse (logits X W) (top (logits X W))) (Host.gather look (logits X W) (pairs L))) shapeCasts_S2048_S2048x1

theorem val_at (r : Fin 2048) (h : (L (ix2 r 0)).toNat < 16384) :
    val X W L (ix2 r 0)
      = top (logits X W) (ix1 r)
          + Ideal.log (∑ v : Fin 16384, Ideal.exp (logits X W (ix2 r v) - top (logits X W) (ix1 r)))
        - logits X W (ix2 r ⟨(L (ix2 r 0)).toNat, h⟩) := by
  unfold val
  rw [diff_at, lse_at, pick_at _ _ r r ⟨_, h⟩ (pairs_row L r) (by rw [pairs_col L r h, BitVec.ofNat_toNat, BitVec.setWidth_eq])]

end Cert.ReferenceIdeal.Value

end
-- ==== Proof.Value.LogSum.lean ====
/-
  The arithmetic of the loss over finite logits: shifting every logit by one number and shifting back changes nothing.
-/
module

public import Idealize.ShloMosaic.PureOps
public import Mathlib.Data.EReal.Operations
public import Mathlib.Analysis.SpecialFunctions.Log.Basic
public import Mathlib.Algebra.BigOperators.Field
public import Idealize.ShloMosaic.PureOps.Ideal

@[expose] public section

noncomputable section

namespace Cert.LogSum

open Idealize.ShloMosaic

/-- Finite numbers add up to a finite number. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of some finite numbers, at least one, is finite. -/
theorem max_coe {ι : Type} (s : Finset ι) (f : ι → ℝ) (hs : s.Nonempty) :
    ∃ μ : ℝ, s.fold max ⊥ (fun i => ((f i : ℝ) : EReal)) = μ := by
  classical
  induction hs using Finset.Nonempty.cons_induction with
  | singleton a => exact ⟨f a, by rw [Finset.fold_singleton, max_bot_right]⟩
  | cons a s ha hs ih =>
    obtain ⟨μ, h⟩ := ih
    exact ⟨max (f a) μ, by rw [Finset.fold_cons, h, EReal.coe_strictMono.monotone.map_max]⟩

/-- The logarithm of the sum of the exponentials of finite numbers. -/
theorem log_sum {ι : Type} (s : Finset ι) (hs : s.Nonempty) (f : ι → ℝ) :
    Ideal.log (∑ i ∈ s, Ideal.exp ((f i : ℝ) : EReal)) = ((Real.log (∑ i ∈ s, Real.exp (f i)) : ℝ) : EReal) := by
  have hp : 0 < ∑ i ∈ s, Real.exp (f i) := Finset.sum_pos (fun i _ => Real.exp_pos _) hs
  simp only [Ideal.exp_coe]
  rw [sum_coe, Ideal.log_coe, if_neg (not_le.mpr hp)]

/-- Shifted down by any finite number and back up, it is the same. -/
theorem log_sum_shift {ι : Type} (s : Finset ι) (hs : s.Nonempty) (f : ι → ℝ) (μ : ℝ) :
    (μ : EReal) + Ideal.log (∑ i ∈ s, Ideal.exp (((f i : ℝ) : EReal) - μ)) = Ideal.log (∑ i ∈ s, Ideal.exp ((f i : ℝ) : EReal)) := by
  have hp : 0 < ∑ i ∈ s, Real.exp (f i) := Finset.sum_pos (fun i _ => Real.exp_pos _) hs
  have e : ∑ i ∈ s, Real.exp (f i - μ) = (∑ i ∈ s, Real.exp (f i)) / Real.exp μ := by
    rw [Finset.sum_div]
    exact Finset.sum_congr rfl fun i _ => Real.exp_sub _ _
  simp only [← EReal.coe_sub]
  rw [log_sum s hs (fun i => f i - μ), log_sum s hs f, e, Real.log_div hp.ne' (Real.exp_pos _).ne', Real.log_exp, ← EReal.coe_add]
  congr 1
  ring

end Cert.LogSum

end
-- ==== Proof.Value.Finite.lean ====
/-
  What the precondition says of each element: the float inputs are finite, the labels are columns of the vocabulary.
-/
module

public import proofs.«01_k».proof.Proof.Gen.Pre_finite_in_range_KernelIdeal
public import Idealize.ShloMosaic.Lib.ReduceAll
public import Idealize.ShloMosaic.PureOps.Ideal

@[expose] public section

set_option maxRecDepth 16384

noncomputable section

namespace Cert.Pre_finite_in_range_KernelIdeal

open Idealize.ShloMosaic
open Cert.Pre_finite_in_range_KernelIdeal.Facts

/-- An extended real of magnitude below infinity is a real number. -/
theorem real_of_lt (x : Ideal .f32) (h : Ideal.cmp .olt (max x (-x)) (Ideal.ofBits .f32 0x7F800000#32) = 1#1) :
    ∃ a : ℝ, x = ((a : ℝ) : EReal) := by
  have ht : Ideal.ofBits .f32 0x7F800000#32 = ⊤ := by simp [Ideal.ofBits, Ideal.ieee]
  rw [ht] at h
  induction x using EReal.rec with
  | coe a => exact ⟨a, rfl⟩
  | bot => simp [Ideal.cmp] at h
  | top => simp [Ideal.cmp] at h

/-- A word that is at least 0 and below 16384, both read signed, is below 16384. -/
theorem small_of (w : BitVec 32) (h : IntOp.andi (IntOp.cmpi .sge w 0#32) (IntOp.cmpi .slt w 16384#32) = 1#1) : w.toNat < 16384 := by
  obtain ⟨h1, h2⟩ := IntOp.andi_eq_one.1 h
  have one : ∀ b : Bool, BitVec.ofBool b = 1#1 → b = true := by decide
  have h1' : (0 : ℤ) ≤ w.toInt := by simpa using BitVec.sle_iff_toInt_le.mp (one _ h1)
  have h2' : w.toInt < 16384 := by simpa using BitVec.slt_iff_toInt_lt.mp (one _ h2)
  rw [BitVec.toInt_eq_toNat_cond] at h1' h2'
  have := w.isLt
  split at h1' <;> omega

instance : Subsingleton S_.Idx := ⟨fun a b => funext fun i => i.elim0⟩

variable (X : FVec Ideal S2048x4096 .f32) (B : FVec Ideal S4096x8192 .f32) (L : IVec S2048x1 32)

/-- What the precondition says of one device's arguments. -/
theorem elements [Facts] (h : fn (F := Ideal) X B L = fun _ => 1#1) :
    (∀ i, ∃ a : ℝ, X i = ((a : ℝ) : EReal)) ∧ (∀ i, ∃ a : ℝ, B i = ((a : ℝ) : EReal)) ∧ ∀ i, (L i).toNat < 16384 := by
  have h0 := congrFun h (Shape.Idx.first h_S_)
  unfold fn at h0
  obtain ⟨h12, h3⟩ := IntOp.andi_eq_one.1 h0
  obtain ⟨h1, h2⟩ := IntOp.andi_eq_one.1 h12
  refine ⟨fun i => ?_, fun i => ?_, fun i => ?_⟩
  · exact real_of_lt _ (Host.reduce_andi_all _ _ _ _ _ h1 i)
  · exact real_of_lt _ (Host.reduce_andi_all _ _ _ _ _ h2 i)
  · exact small_of _ (Host.reduce_andi_all _ _ _ _ _ h3 i)

end Cert.Pre_finite_in_range_KernelIdeal

end
-- ==== Proof.Value.Equation.lean ====
/-
  The kernel's result is the reference's, for finite inputs and labels in range.
-/
module

public import proofs.«01_k».proof.Proof.Value.Device
public import proofs.«01_k».proof.Proof.Value.Reference
public import proofs.«01_k».proof.Proof.Value.LogSum
public import proofs.«01_k».proof.Proof.Value.Finite

@[expose] public section

set_option maxRecDepth 16384

noncomputable section

namespace Cert.Equation

open Cert.KernelIdeal Cert.KernelIdeal.Gen Cert.KernelIdeal.Talk Cert.KernelIdeal.Value
open Idealize.ShloMosaic Idealize.ShloMosaic.TcCoe
open Cert.ReferenceIdeal.Value (logits logits_at top top_at val val_at)

variable (X : FVec Ideal S2048x4096 .f32) (W : FVec Ideal ⟨2, ![4096, 16384]⟩ .f32) (L : IVec S2048x1 32)

/-- The kernel's logit and the reference's are one sum of products. -/
theorem logit_eq (r : Fin 2048) (v : Fin 16384) : logit X W r v.val = logits X W (ix2 r v) := by
  rw [logit, dif_pos v.isLt, logits_at]

/-- The kernel's loss over the reference's logits. -/
theorem loss_eq (r : Fin 2048) (h : (L (ix2 r 0)).toNat < 16384) :
    loss X W L r
      = Ideal.log (∑ v : Fin 16384, Ideal.exp (logits X W (ix2 r v))) - logits X W (ix2 r ⟨(L (ix2 r 0)).toNat, h⟩) := by
  unfold loss hit
  rw [Finset.sum_range, Finset.sum_ite_eq', if_pos (Finset.mem_range.mpr h), ← logit_eq X W r ⟨_, h⟩]
  simp only [logit_eq]

/-- Finite inputs give finite logits. -/
theorem logits_real (hX : ∀ i, ∃ a : ℝ, X i = ((a : ℝ) : EReal)) (hW : ∀ i, ∃ a : ℝ, W i = ((a : ℝ) : EReal)) (r : Fin 2048)
    (v : Fin 16384) : ∃ a : ℝ, logits X W (ix2 r v) = ((a : ℝ) : EReal) := by
  choose x hx using hX
  choose w hw using hW
  refine ⟨∑ k : Fin 4096, x (ix2 r k) * w (ix2 k v), ?_⟩
  rw [logits_at, ← LogSum.sum_coe]
  exact Finset.sum_congr rfl fun k _ => by rw [hx, hw, EReal.coe_mul]

/-- On finite inputs and a label in range the reference's row is the kernel's. -/
theorem row_eq (hX : ∀ i, ∃ a : ℝ, X i = ((a : ℝ) : EReal)) (hW : ∀ i, ∃ a : ℝ, W i = ((a : ℝ) : EReal)) (r : Fin 2048)
    (h : (L (ix2 r 0)).toNat < 16384) : loss X W L r = val X W L (ix2 r 0) := by
  have hb : Ideal.ofBits .f32 0xFF800000#32 = ⊥ := by simp [Ideal.ofBits, Ideal.ieee]
  choose f hf using logits_real X W hX hW r
  obtain ⟨μ, hμ⟩ := LogSum.max_coe Finset.univ f Finset.univ_nonempty
  have ht : top (logits X W) (ix1 r) = ((μ : ℝ) : EReal) := by rw [top_at, hb]; simp only [hf]; exact hμ
  rw [loss_eq X W L r h, val_at X W L r h, ht]
  simp only [hf]
  rw [LogSum.log_sum_shift Finset.univ Finset.univ_nonempty f μ]

/-- Each device holds its half of the weights. -/
def Sharded (W : FVec Ideal ⟨2, ![4096, 16384]⟩ .f32) (m : (ℓ : Loc nD τ sig) → Buf (Elt Ideal) ℓ) : Prop :=
  ∀ c : Dev nD, m ((c : Thread nD τ).loc main_arg1)
    = Layout.blockN ⟨2, ![4096, 8192]⟩ ⟨2, ![4096, 16384]⟩ (Layout.meshBlock [2, 2, 4] ![[], [0]] c) W

variable (m : (ℓ : Loc nD τ sig) → Buf (Elt Ideal) ℓ)
  (hX : ∀ c : Dev nD, m ((c : Thread nD τ).loc main_arg0) = X)
  (hW : Sharded W m)
  (hL : ∀ c : Dev nD, m ((c : Thread nD τ).loc main_arg2) = L)
  (hpre : ∀ c : Dev nD, Cert.Pre_finite_in_range_KernelIdeal.fn (F := Ideal) (m ((c : Thread nD τ).loc main_arg0))
    (m ((c : Thread nD τ).loc main_arg1)) (m ((c : Thread nD τ).loc main_arg2)) = fun _ => 1#1)

include hW hpre in
/-- Every weight is on some device, where the precondition makes it finite. -/
theorem weights_real (i : Shape.Idx ⟨2, ![4096, 16384]⟩) : ∃ a : ℝ, W i = ((a : ℝ) : EReal) := by
  obtain ⟨k, v, rfl⟩ : ∃ (k : Fin 4096) (v : Fin 16384), i = ix2 k v := ⟨_, _, eq_ix2 i⟩
  have hd : ∀ b : Fin 2, ∃ c : Dev nD, c.val / 8 = b.val := by decide
  have hv := v.isLt
  obtain ⟨c, hc⟩ := hd ⟨v.val / 8192, by omega⟩
  have hc : c.val / 8 = v.val / 8192 := hc
  have hl : v.val % 8192 < 8192 := Nat.mod_lt _ (by decide)
  have hg : c.val / 8 * 8192 + v.val % 8192 = v.val := by omega
  have e := half_at c W _ (hW c) k (v.val % 8192) hl (by omega)
  have e' : (⟨c.val / 8 * 8192 + v.val % 8192, by omega⟩ : Fin 16384) = v := Fin.ext hg
  rw [e'] at e
  rw [← e]
  exact (Cert.Pre_finite_in_range_KernelIdeal.elements _ _ _ (hpre c)).2.1 _

include hX hW hL hpre in
/-- Every device's result array ends as the reference's. -/
theorem left_eq (c : Dev nD) : left m c 3 = val X W L := by
  rw [left_out]
  have he := Cert.Pre_finite_in_range_KernelIdeal.elements _ _ _ (hpre c)
  rw [hX c, hL c] at he
  funext j
  obtain ⟨r, z, rfl⟩ : ∃ (r : Fin 2048) (z : Fin 1), j = ix2 r z := ⟨_, _, eq_ix2 j⟩
  rw [Subsingleton.elim z 0, outAt_apply m X W L hX hW hL]
  exact row_eq X W L he.1 (weights_real W m hW hpre) r (he.2.2 _)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_in_range_KernelIdeal
public import proofs.«01_k».proof.Proof.Gen.Pre_finite_in_range_ReferenceIdeal
public import proofs.«01_k».proof.Proof.Kernel.Launch
public import proofs.«01_k».proof.Proof.KernelIdeal.Launch
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel, on its own numbers: it runs, leaves its arguments and ends with every counter at zero. -/
theorem quiet : Cert.quiescent_Kernel := fun m g _ =>
  (θ_run (Cert.Kernel.defs (F := Bits)) _ _).mono
    (fun _ h => ⟨fun c => ⟨(h.1 c 0).trans (Cert.Kernel.Talk.left_0 m c), (h.1 c 1).trans (Cert.Kernel.Talk.left_1 m c),
      (h.1 c 2).trans (Cert.Kernel.Talk.left_2 m c)⟩, h.2⟩)
    (Cert.Kernel.Talk.run_left m g)

/-- The idealized kernel likewise. -/
theorem quietIdeal : Cert.quiescent_KernelIdeal := fun m g _ =>
  (θ_run (Cert.KernelIdeal.defs (F := Ideal)) _ _).mono
    (fun _ h => ⟨fun c => ⟨(h.1 c 0).trans (Cert.KernelIdeal.Talk.left_0 m c), (h.1 c 1).trans (Cert.KernelIdeal.Talk.left_1 m c),
      (h.1 c 2).trans (Cert.KernelIdeal.Talk.left_2 m c)⟩, h.2⟩)
    (Cert.KernelIdeal.Talk.run_left m g)

/-- The reference has no semaphore. -/
theorem quietReference : Cert.quiescent_ReferenceIdeal := fun m g _ =>
  (θ_run (Cert.ReferenceIdeal.defs (F := Ideal)) _ _).mono
    (fun _ h => ⟨fun c => (h c).2, sem_eq_zero_of_no_sems (by decide) _⟩)
    (Cert.ReferenceIdeal.Value.run m g)

/-- The reference ends with the loss. -/
theorem referenceRun (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem (c.tc.loc Cert.ReferenceIdeal.main_v28)
            = Cert.ReferenceIdeal.Value.val (m (c.tc.loc Cert.ReferenceIdeal.main_arg0)) (m (c.tc.loc Cert.ReferenceIdeal.main_arg1))
                (m (c.tc.loc Cert.ReferenceIdeal.main_arg2))
          ∧ r.2.mem (c.tc.loc Cert.ReferenceIdeal.main_arg0) = m (c.tc.loc Cert.ReferenceIdeal.main_arg0)
          ∧ r.2.mem (c.tc.loc Cert.ReferenceIdeal.main_arg1) = m (c.tc.loc Cert.ReferenceIdeal.main_arg1)
          ∧ r.2.mem (c.tc.loc Cert.ReferenceIdeal.main_arg2) = m (c.tc.loc Cert.ReferenceIdeal.main_arg2) :=
  (θ_run (Cert.ReferenceIdeal.defs (F := Ideal)) _ _).mono
    (fun _ h c => ⟨(h c).1.trans (by
      unfold Cert.ReferenceIdeal.Value.val Cert.ReferenceIdeal.Value.lse Cert.ReferenceIdeal.Value.pairs
        Cert.ReferenceIdeal.Value.top Cert.ReferenceIdeal.Value.logits
      rfl), (h c).2⟩)
    (Cert.ReferenceIdeal.Value.run m g)

/-- The idealized kernel's result, on every device, is the reference's. -/
theorem equal : Cert.algebraic_KernelIdeal_ReferenceIdeal_pre_finite_in_range_KernelIdeal := by
  intro m g m' g' hpre hagree
  refine ⟨_, ?_, (θ_run (Cert.ReferenceIdeal.defs (F := Ideal)) _ _).mono (fun _ h => h 0) (referenceRun m' g')⟩
  exact (θ_run (Cert.KernelIdeal.defs (F := Ideal)) _ _).mono
    (fun _ h c => ⟨(h.1 c 3).trans (Cert.Equation.left_eq _ _ _ m (fun c => (hagree c).1) (fun c => (hagree c).2.1)
        (fun c => (hagree c).2.2) hpre c),
      (h.1 c 0).trans (Cert.KernelIdeal.Talk.left_0 m c), (h.1 c 1).trans (Cert.KernelIdeal.Talk.left_1 m c),
      (h.1 c 2).trans (Cert.KernelIdeal.Talk.left_2 m c)⟩)
    (Cert.KernelIdeal.Talk.run_left m g)

/-- The five claims. -/
theorem claim : Cert.Claim := ⟨Cert.Kernel.Gen.facts, Cert.KernelIdeal.Gen.facts, Cert.ReferenceIdeal.Gen.facts,
  Cert.Pre_finite_in_range_KernelIdeal.Gen.facts, Cert.Pre_finite_in_range_ReferenceIdeal.Gen.facts,
  quiet, quietIdeal, fun m g _ => quietIdeal m g trivial, quietReference, fun m g _ => quietReference m g trivial, trivial, equal⟩

end Cert.Proof

end
